-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1536x3584 : Shape := ⟨3, ![8, 1536, 3584]⟩
abbrev S3584x9472 : Shape := ⟨2, ![3584, 9472]⟩
abbrev S112x18944 : Shape := ⟨2, ![112, 18944]⟩
abbrev S12288x3584 : Shape := ⟨2, ![12288, 3584]⟩
abbrev S12288x18944 : Shape := ⟨2, ![12288, 18944]⟩
abbrev S12288x112 : Shape := ⟨2, ![12288, 112]⟩
abbrev S1024x3584 : Shape := ⟨2, ![1024, 3584]⟩
abbrev S3584x256 : Shape := ⟨2, ![3584, 256]⟩
abbrev S112x256 : Shape := ⟨2, ![112, 256]⟩
abbrev S1024x256 : Shape := ⟨2, ![1024, 256]⟩
abbrev S1024x112 : Shape := ⟨2, ![1024, 112]⟩
abbrev S32x128 : Shape := ⟨2, ![32, 128]⟩
abbrev S32x128x1 : Shape := ⟨3, ![32, 128, 1]⟩
abbrev S32x112 : Shape := ⟨2, ![32, 112]⟩
abbrev S1x256 : Shape := ⟨2, ![1, 256]⟩
abbrev S16x256 : Shape := ⟨2, ![16, 256]⟩
abbrev S32x256 : Shape := ⟨2, ![32, 256]⟩
abbrev S8x256 : Shape := ⟨2, ![8, 256]⟩

abbrev nBuf : Space → Nat
  | .hbm => 7
  | .vmem => 14
  | .smem => 0
  | _ => 0

abbrev bufTy : (tb : Table) → Fin (tcTables nBuf tb) → BufTy
  | .hbm, ⟨0, _⟩ => ⟨S8x1536x3584, .bf16⟩
  | .hbm, ⟨1, _⟩ => ⟨S3584x9472, .i8⟩
  | .hbm, ⟨2, _⟩ => ⟨S112x18944, .i8⟩
  | .hbm, ⟨3, _⟩ => ⟨S12288x3584, .bf16⟩
  | .hbm, ⟨4, _⟩ => ⟨S12288x18944, .bf16⟩
  | .hbm, ⟨5, _⟩ => ⟨S12288x3584, .fp8e4m3⟩
  | .hbm, ⟨6, _⟩ => ⟨S12288x112, .f32⟩
  | .local _ .vmem, ⟨0, _⟩ => ⟨S1024x3584, .bf16⟩
  | .local _ .vmem, ⟨1, _⟩ => ⟨S1024x3584, .bf16⟩
  | .local _ .vmem, ⟨2, _⟩ => ⟨S3584x256, .i8⟩
  | .local _ .vmem, ⟨3, _⟩ => ⟨S3584x256, .i8⟩
  | .local _ .vmem, ⟨4, _⟩ => ⟨S112x256, .i8⟩
  | .local _ .vmem, ⟨5, _⟩ => ⟨S112x256, .i8⟩
  | .local _ .vmem, ⟨6, _⟩ => ⟨S1024x256, .bf16⟩
  | .local _ .vmem, ⟨7, _⟩ => ⟨S1024x256, .bf16⟩
  | .local _ .vmem, ⟨8, _⟩ => ⟨S1024x3584, .fp8e4m3⟩
  | .local _ .vmem, ⟨9, _⟩ => ⟨S1024x3584, .fp8e4m3⟩
  | .local _ .vmem, ⟨10, _⟩ => ⟨S1024x112, .f32⟩
  | .local _ .vmem, ⟨11, _⟩ => ⟨S1024x112, .f32⟩
  | .local _ .vmem, ⟨12, _⟩ => ⟨S1024x3584, .bf16⟩
  | .local _ .vmem, ⟨13, _⟩ => ⟨S3584x256, .bf16⟩
  | _, _ => ⟨S8x1536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![12, 37, 2], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_10 : BitVec 32 := 0#32
  let c32_i32 : BitVec 32 := 32#32
  let v16 : BitVec 32 := Scalar.addi c0_i32_10 c32_i32
  let c1_i32_11 : BitVec 32 := 1#32
  ⟨c0_i32_10, v16, c1_i32_11⟩
def k0_mult1 (k0_t1 : Fin k0_t1_loop.trips) : BitVec 32 :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  v18
def k0_off1 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v22 : Index := Scalar.indexCast v19
  let c0_16 : Index := 0#32
  ![v22.toNat, 0]
def k0_off2 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v137 : Index := Scalar.indexCast v19
  let c128 : Index := 128#32
  ![v137.toNat, 128]
def k0_off3 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v252 : Index := Scalar.indexCast v19
  let c256 : Index := 256#32
  ![v252.toNat, 256]
def k0_off4 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v367 : Index := Scalar.indexCast v19
  let c384 : Index := 384#32
  ![v367.toNat, 384]
def k0_off5 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v482 : Index := Scalar.indexCast v19
  let c512 : Index := 512#32
  ![v482.toNat, 512]
def k0_off6 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v597 : Index := Scalar.indexCast v19
  let c640 : Index := 640#32
  ![v597.toNat, 640]
def k0_off7 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v712 : Index := Scalar.indexCast v19
  let c768 : Index := 768#32
  ![v712.toNat, 768]
def k0_off8 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v827 : Index := Scalar.indexCast v19
  let c896 : Index := 896#32
  ![v827.toNat, 896]
def k0_off9 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v942 : Index := Scalar.indexCast v19
  let c1024 : Index := 1024#32
  ![v942.toNat, 1024]
def k0_off10 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v1057 : Index := Scalar.indexCast v19
  let c1152 : Index := 1152#32
  ![v1057.toNat, 1152]
def k0_off11 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v1172 : Index := Scalar.indexCast v19
  let c1280 : Index := 1280#32
  ![v1172.toNat, 1280]
def k0_off12 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v1287 : Index := Scalar.indexCast v19
  let c1408 : Index := 1408#32
  ![v1287.toNat, 1408]
def k0_off13 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v1402 : Index := Scalar.indexCast v19
  let c1536 : Index := 1536#32
  ![v1402.toNat, 1536]
def k0_off14 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v1517 : Index := Scalar.indexCast v19
  let c1664 : Index := 1664#32
  ![v1517.toNat, 1664]
def k0_off15 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v1632 : Index := Scalar.indexCast v19
  let c1792 : Index := 1792#32
  ![v1632.toNat, 1792]
def k0_off16 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v1747 : Index := Scalar.indexCast v19
  let c1920 : Index := 1920#32
  ![v1747.toNat, 1920]
def k0_off17 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v1862 : Index := Scalar.indexCast v19
  let c2048 : Index := 2048#32
  ![v1862.toNat, 2048]
def k0_off18 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v1977 : Index := Scalar.indexCast v19
  let c2176 : Index := 2176#32
  ![v1977.toNat, 2176]
def k0_off19 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v2092 : Index := Scalar.indexCast v19
  let c2304 : Index := 2304#32
  ![v2092.toNat, 2304]
def k0_off20 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v2207 : Index := Scalar.indexCast v19
  let c2432 : Index := 2432#32
  ![v2207.toNat, 2432]
def k0_off21 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v2322 : Index := Scalar.indexCast v19
  let c2560 : Index := 2560#32
  ![v2322.toNat, 2560]
def k0_off22 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v2437 : Index := Scalar.indexCast v19
  let c2688 : Index := 2688#32
  ![v2437.toNat, 2688]
def k0_off23 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v2552 : Index := Scalar.indexCast v19
  let c2816 : Index := 2816#32
  ![v2552.toNat, 2816]
def k0_off24 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v2667 : Index := Scalar.indexCast v19
  let c2944 : Index := 2944#32
  ![v2667.toNat, 2944]
def k0_off25 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v2782 : Index := Scalar.indexCast v19
  let c3072 : Index := 3072#32
  ![v2782.toNat, 3072]
def k0_off26 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v2897 : Index := Scalar.indexCast v19
  let c3200 : Index := 3200#32
  ![v2897.toNat, 3200]
def k0_off27 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v3012 : Index := Scalar.indexCast v19
  let c3328 : Index := 3328#32
  ![v3012.toNat, 3328]
def k0_off28 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v3127 : Index := Scalar.indexCast v19
  let c3456 : Index := 3456#32
  ![v3127.toNat, 3456]
def k0_off29 (k0_t1 : Fin k0_t1_loop.trips) : Fin 2 → Nat :=
  let c0_i32_14 : BitVec 32 := 0#32
  let c0_i32_10 : BitVec 32 := 0#32
  let c1_i32_11 : BitVec 32 := 1#32
  let arg11 : BitVec 32 := Scf.iv c0_i32_10 c1_i32_11 k0_t1
  let c32_i32_13 : BitVec 32 := 32#32
  let v17 : BitVec 32 := Scalar.muli arg11 c32_i32_13
  let v18 : BitVec 32 := Scalar.addi c0_i32_14 v17
  let v19 : BitVec 32 := v18
  let v3243 : Index := Scalar.indexCast v19
  let c0_1076 : Index := 0#32
  ![v3243.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c37_i32 : BitVec 32 := 37#32
  let v0 : BitVec 32 := Scalar.muli arg2 c37_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c37_i32 : BitVec 32 := 37#32
  let v0 : BitVec 32 := Scalar.muli arg2 c37_i32
  let v1 : BitVec 32 := Scalar.addi v0 arg1
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S3584x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S112x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x3584 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x112 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== ReferenceIdeal.lean ====
abbrev S8x1536x3584 : Shape := ⟨3, ![8, 1536, 3584]⟩
abbrev S3584x9472 : Shape := ⟨2, ![3584, 9472]⟩
abbrev S112x18944 : Shape := ⟨2, ![112, 18944]⟩
abbrev S12288x3584 : Shape := ⟨2, ![12288, 3584]⟩
abbrev S12288x18944 : Shape := ⟨2, ![12288, 18944]⟩
abbrev S12288x112 : Shape := ⟨2, ![12288, 112]⟩
abbrev S12288x112x32 : Shape := ⟨3, ![12288, 112, 32]⟩
abbrev S12288x112x246 : Shape := ⟨3, ![12288, 112, 246]⟩
abbrev S12288x112x1 : Shape := ⟨3, ![12288, 112, 1]⟩
abbrev S112x9472 : Shape := ⟨2, ![112, 9472]⟩
abbrev S112x32x9472 : Shape := ⟨3, ![112, 32, 9472]⟩
abbrev S112x1x9472 : Shape := ⟨3, ![112, 1, 9472]⟩
abbrev S12288x9472 : Shape := ⟨2, ![12288, 9472]⟩

abbrev nBuf : Space → Nat
  | .hbm => 7
  | .vmem => 6
  | .smem => 0
  | _ => 0

abbrev bufTy : (tb : Table) → Fin (tcTables nBuf tb) → BufTy
  | .hbm, ⟨0, _⟩ => ⟨S8x1536x3584, .bf16⟩
  | .hbm, ⟨1, _⟩ => ⟨S3584x9472, .i8⟩
  | .hbm, ⟨2, _⟩ => ⟨S112x18944, .i8⟩
  | .hbm, ⟨3, _⟩ => ⟨S12288x3584, .bf16⟩
  | .hbm, ⟨4, _⟩ => ⟨S12288x18944, .bf16⟩
  | .hbm, ⟨5, _⟩ => ⟨S12288x3584, .fp8e4m3⟩
  | .hbm, ⟨6, _⟩ => ⟨S12288x112, .f32⟩
  | .local _ .vmem, ⟨0, _⟩ => ⟨S12288x3584, .bf16⟩
  | .local _ .vmem, ⟨1, _⟩ => ⟨S3584x9472, .i8⟩
  | .local _ .vmem, ⟨2, _⟩ => ⟨S112x18944, .i8⟩
  | .local _ .vmem, ⟨3, _⟩ => ⟨S12288x18944, .bf16⟩
  | .local _ .vmem, ⟨4, _⟩ => ⟨S12288x3584, .fp8e4m3⟩
  | .local _ .vmem, ⟨5, _⟩ => ⟨S12288x112, .f32⟩
  | _, _ => ⟨S8x1536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x9472 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112x18944 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x18944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x112 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Free.Runs.lean ====
/- What the runs of the kernel's own frame share: the arrays at the launch, the branch conditions over the grid
   points and the memrefs. The outputs' contents are named nowhere. Copied from the generator's frame certificate. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Free

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 74) — by arithmetic of the point. -/
theorem hcond0_0 : ∀ t : Fin cfg0.N, cond0_0 (grid0.coords t) ↔ t.val % 74 = 0 :=
  (fun t => by
    have ht : t.val < 888 := Nat.lt_of_lt_of_eq t.isLt N_0
    have e0 : (grid0.coords t 0).val = t.val / 74 % 12 := Pipeline.Grid.coords_val t 0 (by decide) rfl
    have e1 : (grid0.coords t 1).val = t.val / 2 % 37 := Pipeline.Grid.coords_val t 1 (by decide) rfl
    have e2 : (grid0.coords t 2).val = t.val / 1 % 2 := Pipeline.Grid.coords_val t 2 (by decide) rfl
    simp only [cond0_0, k0_cond1, e0, e1, e2]
    word_cmp
   : ∀ t : Fin grid0.N, cond0_0 (grid0.coords t) ↔ t.val % 74 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 2).val) 0#32)) 0#32) = 1#1
/-- It holds at the points ≡ 0 (mod 2) — by arithmetic of the point. -/
theorem hcond0_1 : ∀ t : Fin cfg0.N, cond0_1 (grid0.coords t) ↔ t.val % 2 = 0 :=
  (fun t => by
    have ht : t.val < 888 := Nat.lt_of_lt_of_eq t.isLt N_0
    have e0 : (grid0.coords t 0).val = t.val / 74 % 12 := Pipeline.Grid.coords_val t 0 (by decide) rfl
    have e1 : (grid0.coords t 1).val = t.val / 2 % 37 := Pipeline.Grid.coords_val t 1 (by decide) rfl
    have e2 : (grid0.coords t 2).val = t.val / 1 % 2 := Pipeline.Grid.coords_val t 2 (by decide) rfl
    simp only [cond0_1, e0, e1, e2]
    word_cmp
   : ∀ t : Fin grid0.N, cond0_1 (grid0.coords t) ↔ t.val % 2 = 0)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 2).val) 1#32)) 0#32) = 1#1
/-- It holds at the points ≡ 1 (mod 2) — by arithmetic of the point. -/
theorem hcond0_2 : ∀ t : Fin cfg0.N, cond0_2 (grid0.coords t) ↔ t.val % 2 = 1 :=
  (fun t => by
    have ht : t.val < 888 := Nat.lt_of_lt_of_eq t.isLt N_0
    have e0 : (grid0.coords t 0).val = t.val / 74 % 12 := Pipeline.Grid.coords_val t 0 (by decide) rfl
    have e1 : (grid0.coords t 1).val = t.val / 2 % 37 := Pipeline.Grid.coords_val t 1 (by decide) rfl
    have e2 : (grid0.coords t 2).val = t.val / 1 % 2 := Pipeline.Grid.coords_val t 2 (by decide) rfl
    simp only [cond0_2, e0, e1, e2]
    word_cmp
   : ∀ t : Fin grid0.N, cond0_2 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3584x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S112x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x3584 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x112 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x3584 .bf16 := Memref.whole cc0_scratch0
abbrev scM0_1 : Memref sig .tc .vmem S3584x256 .bf16 := Memref.whole cc0_scratch1

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Free

end
-- ==== Proof.Free.RunA.lean ====
/- The kernel body's run at the first column block of a row block, nothing of its outputs named. Copied from the
   generator's frame certificate. -/
module

public import proofs.«01_k».proof.Proof.Free.Runs

@[expose] public section

-- membership in a rectangle of production extents (`View.cover_of_tiled`): the elaborator's structural look
-- recurses once per coordinate of the long axes
set_option maxRecDepth 16384

noncomputable section

namespace Cert.Kernel.Free

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2496000 in
/-- The body's triple IN CASE A (`scf.if` 0 taken, `scf.if` 1 taken, `scf.if` 2 not taken: points 0, 74, … 814: 12 of 888): on whole staging memrefs — the inputs' at their contents,
    the FORGOTTEN outputs' (3, 4, 5) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_A (c : Dev nD) (i : grid0.Coords) (arg3 : Memref sig .tc .vmem S1024x3584 .bf16) (harg3 : arg3.IsWhole) (arg4 : Memref sig .tc .vmem S3584x256 .i8) (harg4 : arg4.IsWhole) (arg5 : Memref sig .tc .vmem S112x256 .i8) (harg5 : arg5.IsWhole) (arg6 : Memref sig .tc .vmem S1024x256 .bf16) (harg6 : arg6.IsWhole) (arg7 : Memref sig .tc .vmem S1024x3584 .fp8e4m3) (harg7 : arg7.IsWhole) (arg8 : Memref sig .tc .vmem S1024x112 .f32) (harg8 : arg8.IsWhole) (arg9 : Memref sig .tc .vmem S1024x3584 .bf16) (harg9 : arg9.IsWhole) (arg10 : Memref sig .tc .vmem S3584x256 .bf16) (harg10 : arg10.IsWhole) (hc0 : cond0_0 i) (hc1 : cond0_1 i) (hc2 : ¬cond0_2 i)
    (x0 : Vec F S1024x3584 .bf16) (x1 : Vec F S3584x256 .i8) (x2 : Vec F S112x256 .i8) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_mx_matmul i arg3 harg3 arg4 harg4 arg5 harg5 arg6 harg6 arg7 harg7 arg8 harg8 arg9 harg9 arg10 harg10) K := by
    intro E K
    simp only [cc0_mx_matmul_eq_skeleton]; unfold cc0_mx_matmul_skel
    simp only [k0_part136_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

end Cert.Kernel.Free

end
-- ==== Proof.Free.RunB.lean ====
/- The kernel body's run at a column block, high half, nothing of its outputs named. Copied from the generator's frame
   certificate. -/
module

public import proofs.«01_k».proof.Proof.Free.RunA

@[expose] public section

-- membership in a rectangle of production extents (`View.cover_of_tiled`): the elaborator's structural look
-- recurses once per coordinate of the long axes
set_option maxRecDepth 16384

noncomputable section

namespace Cert.Kernel.Free

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2352000 in
/-- The body's triple IN CASE B (`scf.if` 0 not taken, `scf.if` 1 not taken, `scf.if` 2 taken: points 1, 3, … 887: 444 of 888): on whole staging memrefs — the inputs' at their contents,
    the FORGOTTEN outputs' (3, 4, 5) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_B (c : Dev nD) (i : grid0.Coords) (arg3 : Memref sig .tc .vmem S1024x3584 .bf16) (harg3 : arg3.IsWhole) (arg4 : Memref sig .tc .vmem S3584x256 .i8) (harg4 : arg4.IsWhole) (arg5 : Memref sig .tc .vmem S112x256 .i8) (harg5 : arg5.IsWhole) (arg6 : Memref sig .tc .vmem S1024x256 .bf16) (harg6 : arg6.IsWhole) (arg7 : Memref sig .tc .vmem S1024x3584 .fp8e4m3) (harg7 : arg7.IsWhole) (arg8 : Memref sig .tc .vmem S1024x112 .f32) (harg8 : arg8.IsWhole) (arg9 : Memref sig .tc .vmem S1024x3584 .bf16) (harg9 : arg9.IsWhole) (arg10 : Memref sig .tc .vmem S3584x256 .bf16) (harg10 : arg10.IsWhole) (hc0 : ¬cond0_0 i) (hc1 : ¬cond0_1 i) (hc2 : cond0_2 i)
    (x0 : Vec F S1024x3584 .bf16) (x1 : Vec F S3584x256 .i8) (x2 : Vec F S112x256 .i8) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_mx_matmul i arg3 harg3 arg4 harg4 arg5 harg5 arg6 harg6 arg7 harg7 arg8 harg8 arg9 harg9 arg10 harg10) K := by
    intro E K
    simp only [cc0_mx_matmul_eq_skeleton]; unfold cc0_mx_matmul_skel
    simp only [k0_part193_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

end Cert.Kernel.Free

end
-- ==== Proof.Free.RunC.lean ====
/- The kernel body's run at a later column block, low half, nothing of its outputs named. Copied from the generator's
   frame certificate. -/
module

public import proofs.«01_k».proof.Proof.Free.RunB

@[expose] public section

-- membership in a rectangle of production extents (`View.cover_of_tiled`): the elaborator's structural look
-- recurses once per coordinate of the long axes
set_option maxRecDepth 16384

noncomputable section

namespace Cert.Kernel.Free

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2392000 in
/-- The body's triple IN CASE C (`scf.if` 0 not taken, `scf.if` 1 taken, `scf.if` 2 not taken: points 2, 4, … 886: 432 of 888): on whole staging memrefs — the inputs' at their contents,
    the FORGOTTEN outputs' (3, 4, 5) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_C (c : Dev nD) (i : grid0.Coords) (arg3 : Memref sig .tc .vmem S1024x3584 .bf16) (harg3 : arg3.IsWhole) (arg4 : Memref sig .tc .vmem S3584x256 .i8) (harg4 : arg4.IsWhole) (arg5 : Memref sig .tc .vmem S112x256 .i8) (harg5 : arg5.IsWhole) (arg6 : Memref sig .tc .vmem S1024x256 .bf16) (harg6 : arg6.IsWhole) (arg7 : Memref sig .tc .vmem S1024x3584 .fp8e4m3) (harg7 : arg7.IsWhole) (arg8 : Memref sig .tc .vmem S1024x112 .f32) (harg8 : arg8.IsWhole) (arg9 : Memref sig .tc .vmem S1024x3584 .bf16) (harg9 : arg9.IsWhole) (arg10 : Memref sig .tc .vmem S3584x256 .bf16) (harg10 : arg10.IsWhole) (hc0 : ¬cond0_0 i) (hc1 : cond0_1 i) (hc2 : ¬cond0_2 i)
    (x0 : Vec F S1024x3584 .bf16) (x1 : Vec F S3584x256 .i8) (x2 : Vec F S112x256 .i8) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_mx_matmul i arg3 harg3 arg4 harg4 arg5 harg5 arg6 harg6 arg7 harg7 arg8 harg8 arg9 harg9 arg10 harg10) K := by
    intro E K
    simp only [cc0_mx_matmul_eq_skeleton]; unfold cc0_mx_matmul_skel
    simp only [k0_part136_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

end Cert.Kernel.Free

end
-- ==== Proof.Free.Frame.lean ====
/- The frame of the kernel, at any reading of the floats: it runs, its arguments end unchanged, every counter ends at
   zero. Copied from the generator's frame certificate. -/
module

public import proofs.«01_k».proof.Proof.Free.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Free

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5): nothing reads what the kernel leaves in them, so nothing
    of it is named (Lib/Pipeline/Dat.lean `Dat.toRForget`). -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 888 := lt_of_lt_of_eq t.isLt (show cfg0.N = 888 from N_0)
  by_cases h0 : t.val % 74 = 0
  · by_cases h1 : t.val % 2 = 0
    · by_cases h2 : t.val % 2 = 1
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) ((hcond0_1 t).mpr h1) (fun h => h2 ((hcond0_2 t).mp h)) (iblk m c 0 t) (iblk m c 1 t) (iblk m c 2 t)) Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        iintro ⟨H0, H1, H2, H3, H4, H5, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        iexact H5
    · exfalso; omega
  · by_cases h1 : t.val % 2 = 0
    · by_cases h2 : t.val % 2 = 1
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t)) Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        iintro ⟨H0, H1, H2, H3, H4, H5, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        iexact H5
    · by_cases h2 : t.val % 2 = 1
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t)) Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        iintro ⟨H0, H1, H2, H3, H4, H5, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        iexact H5
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The frame claim at any reading of the floats; the certificate cites it at `Bits`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Free

end
-- ==== Proof.Kern.Points.lean ====
/- The branch conditions of the kernel body in closed form over the grid points, and the memrefs its cases run on. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 74) — by arithmetic of the point. -/
theorem hcond0_0 : ∀ t : Fin cfg0.N, cond0_0 (grid0.coords t) ↔ t.val % 74 = 0 :=
  (fun t => by
    have ht : t.val < 888 := Nat.lt_of_lt_of_eq t.isLt N_0
    have e0 : (grid0.coords t 0).val = t.val / 74 % 12 := Pipeline.Grid.coords_val t 0 (by decide) rfl
    have e1 : (grid0.coords t 1).val = t.val / 2 % 37 := Pipeline.Grid.coords_val t 1 (by decide) rfl
    have e2 : (grid0.coords t 2).val = t.val / 1 % 2 := Pipeline.Grid.coords_val t 2 (by decide) rfl
    simp only [cond0_0, k0_cond1, e0, e1, e2]
    word_cmp
   : ∀ t : Fin grid0.N, cond0_0 (grid0.coords t) ↔ t.val % 74 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 2).val) 0#32)) 0#32) = 1#1
/-- It holds at the points ≡ 0 (mod 2) — by arithmetic of the point. -/
theorem hcond0_1 : ∀ t : Fin cfg0.N, cond0_1 (grid0.coords t) ↔ t.val % 2 = 0 :=
  (fun t => by
    have ht : t.val < 888 := Nat.lt_of_lt_of_eq t.isLt N_0
    have e0 : (grid0.coords t 0).val = t.val / 74 % 12 := Pipeline.Grid.coords_val t 0 (by decide) rfl
    have e1 : (grid0.coords t 1).val = t.val / 2 % 37 := Pipeline.Grid.coords_val t 1 (by decide) rfl
    have e2 : (grid0.coords t 2).val = t.val / 1 % 2 := Pipeline.Grid.coords_val t 2 (by decide) rfl
    simp only [cond0_1, e0, e1, e2]
    word_cmp
   : ∀ t : Fin grid0.N, cond0_1 (grid0.coords t) ↔ t.val % 2 = 0)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 2).val) 1#32)) 0#32) = 1#1
/-- It holds at the points ≡ 1 (mod 2) — by arithmetic of the point. -/
theorem hcond0_2 : ∀ t : Fin cfg0.N, cond0_2 (grid0.coords t) ↔ t.val % 2 = 1 :=
  (fun t => by
    have ht : t.val < 888 := Nat.lt_of_lt_of_eq t.isLt N_0
    have e0 : (grid0.coords t 0).val = t.val / 74 % 12 := Pipeline.Grid.coords_val t 0 (by decide) rfl
    have e1 : (grid0.coords t 1).val = t.val / 2 % 37 := Pipeline.Grid.coords_val t 1 (by decide) rfl
    have e2 : (grid0.coords t 2).val = t.val / 1 % 2 := Pipeline.Grid.coords_val t 2 (by decide) rfl
    simp only [cond0_2, e0, e1, e2]
    word_cmp
   : ∀ t : Fin grid0.N, cond0_2 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3584x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S112x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x3584 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x112 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x3584 .bf16 := Memref.whole cc0_scratch0
abbrev scM0_1 : Memref sig .tc .vmem S3584x256 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.Kern.Pieces.lean ====
/- The dequantised tile of one group of 32 weight rows, and the list of stores that fills the weight scratch. -/
module

public import proofs.«01_k».proof.Proof.Kern.Points
public import Idealize.ShloMosaic.Lib.Pipeline.ValueKit.Basic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- The scale bytes `e` as words that hold the bfloat16 pattern `e << 7` twice. -/
def scaleWords (ws : Vec F S112x256 .i8) : IVec S112x256 32 := k0_pay289 ws

theorem slices_row (g : ℕ) (hg : g < 112) : S112x256.Slices ![g, 0] S1x256 :=
  ⟨rfl, fun a => by match a with | ⟨0, _⟩ => exact hg | ⟨1, _⟩ => exact Nat.le_refl _⟩

theorem inb_rows (g : ℕ) (hg : g < 112) : ∀ a, (![32 * g, 0] : Fin 2 → ℕ) a + S32x256.size a ≤ S3584x256.size a :=
  fun a => by
    match a with
    | ⟨0, _⟩ => show 32 * g + 32 ≤ 3584; omega
    | ⟨1, _⟩ => exact Nat.le_refl _

/-- Row `g` of the scales, spread over the 32 rows of its group. -/
def scaleTile (ws : Vec F S112x256 .i8) (g : ℕ) (hg : g < 112) : FVec F S32x256 .bf16 :=
  bitcastToFloat .bf16 (bitcast S32x256 16 (broadcastTo S16x256 (shapeCast S1x256
    (extractStridedSlice S1x256 ![g, 0] (scaleWords ws) (slices_row g hg)) shapeCasts_S1x256_S1x256)
    broadcasts_S1x256_S16x256) bitcasts_S16x256_w32_S32x256_w16)

/-- The low nibbles of a tile, as float8 patterns. -/
def bitsLo (p : Vec F S32x256 .i8) : IVec S8x256 32 :=
  ori (shli (andi (bitcast S8x256 32 p bitcasts_S32x256_w8_S8x256_w32) (broadcast S8x256 134744072#32)) (broadcast S8x256 4#32))
    (shli (andi (bitcast S8x256 32 p bitcasts_S32x256_w8_S8x256_w32) (broadcast S8x256 117901063#32)) (broadcast S8x256 2#32))

/-- The high nibbles of a tile, as float8 patterns. -/
def bitsHi (p : Vec F S32x256 .i8) : IVec S8x256 32 :=
  ori (andi (bitcast S8x256 32 p bitcasts_S32x256_w8_S8x256_w32) (broadcast S8x256 2155905152#32))
    (shrui (andi (bitcast S8x256 32 p bitcasts_S32x256_w8_S8x256_w32) (broadcast S8x256 1886417008#32)) (broadcast S8x256 2#32))

/-- Float8 patterns decoded, times 64, times the scale of the group. -/
def dqTile (bits : IVec S8x256 32) (ws : Vec F S112x256 .i8) (g : ℕ) (hg : g < 112) : FVec F S32x256 .bf16 :=
  shapeCast S32x256 (mulf (mulf (extf .bf16 (bitcastToFloat .fp8e4m3 (bitcast S32x256 8 bits bitcasts_S8x256_w32_S32x256_w8))
    bitsLt_fp8e4m3_bf16) (broadcast S32x256 (Scalar.ofBits .bf16 0x4280#16))) (scaleTile ws g hg)) shapeCasts_S32x256_S32x256

theorem zero2 : ∀ a : Fin 2, (![0, 0] : Fin 2 → ℕ) a = 0 := by decide

/-- A buffer stored whole reads what was stored. -/
theorem read_store_whole {Val : EltTy → Type} [∀ e, Nonempty (Val e)] {sig : RefSig} {κ : Kind} {sp : Space} {S : Shape} {e : EltTy}
    (v : View sig κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h inb w]

/-- The stores of the groups before `n`, last first, for a decoder `bits` of a tile. -/
def pieces (bits : Vec F S32x256 .i8 → IVec S8x256 32) (wp : Vec F S3584x256 .i8) (ws : Vec F S112x256 .i8) :
    (n : ℕ) → n ≤ 112 → List (View.Piece (Elt F) S3584x256 .bf16)
  | 0, _ => []
  | n + 1, h => ⟨Rect.unit ![32 * n, 0] S32x256.size (inb_rows n h),
      dqTile (bits (View.ld wp (Rect.unit ![32 * n, 0] S32x256.size (inb_rows n h)))) ws n h⟩
      :: pieces bits wp ws n (Nat.le_of_succ_le h)

/-- The dequantised tile of the low nibbles. -/
def wLo (wp : Vec F S3584x256 .i8) (ws : Vec F S112x256 .i8) : Vec F S3584x256 .bf16 :=
  View.canon (pieces bitsLo wp ws 112 (Nat.le_refl _))

/-- The dequantised tile of the high nibbles. -/
def wHi (wp : Vec F S3584x256 .i8) (ws : Vec F S112x256 .i8) : Vec F S3584x256 .bf16 :=
  View.canon (pieces bitsHi wp ws 112 (Nat.le_refl _))

end Cert.KernelIdeal.Hand

end
-- ==== Proof.Kern.Chunk.lean ====
/- One chunk of the quantiser (32 rows, 128 columns), and the lists of stores of one trip of its loop. -/
module

public import proofs.«01_k».proof.Proof.Kern.Pieces

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- The column number, on every element of a chunk. -/
def lane : IVec S32x128 32 := iota .tc S32x128 32 [1] iota_S32x128_d1_w32

/-- Lane numbers counted from the end made positive, as a gather prints them. -/
def wrap (v : IVec S32x128 32) : IVec S32x128 32 :=
  shapeCast S32x128 (shapeCast S32x128x1 (select (cmpi .slt v (broadcast S32x128 0#32)) (addi v (broadcast S32x128 128#32)) v)
    shapeCasts_S32x128_S32x128x1) shapeCasts_S32x128x1_S32x128

/-- The larger of a lane and the lane `128 - r` to its right. -/
def rollMax (r : BitVec 32) (a : FVec F S32x128 .bf16) : FVec F S32x128 .bf16 :=
  maximumf a (dynamicRotate 1 r none a rotates_S32x128_d1)

/-- The largest magnitude of the 32 lanes from a lane on. -/
def windowMax (x : FVec F S32x128 .bf16) : FVec F S32x128 .bf16 :=
  rollMax 127#32 (rollMax 126#32 (rollMax 124#32 (rollMax 120#32 (rollMax 112#32 (absf x)))))

/-- A constant of bfloat16 on every element of a chunk. -/
abbrev splat (b : BitVec 16) : FVec F S32x128 .bf16 := broadcast S32x128 (Scalar.ofBits .bf16 b)

/-- One step of the search: the scale grows by the factor `w` unless it is large enough. -/
def grow (a s : FVec F S32x128 .bf16) (k w : BitVec 16) : FVec F S32x128 .bf16 :=
  select (cmpf .olt a (mulf s (splat k))) s (mulf s (splat w))

def s0 (a : FVec F S32x128 .bf16) : FVec F S32x128 .bf16 :=
  select (cmpf .olt a (splat 0x43E0#16)) (splat 0x0100#16) (splat 0x4000#16)
def s1 (a : FVec F S32x128 .bf16) : FVec F S32x128 .bf16 := grow a (s0 a) 0x6360#16 0x5F80#16
def s2 (a : FVec F S32x128 .bf16) : FVec F S32x128 .bf16 := grow a (s1 a) 0x5360#16 0x4F80#16
def s3 (a : FVec F S32x128 .bf16) : FVec F S32x128 .bf16 := grow a (s2 a) 0x4B60#16 0x4780#16
def s4 (a : FVec F S32x128 .bf16) : FVec F S32x128 .bf16 := grow a (s3 a) 0x4760#16 0x4380#16
def s5 (a : FVec F S32x128 .bf16) : FVec F S32x128 .bf16 := grow a (s4 a) 0x4560#16 0x4180#16
def s6 (a : FVec F S32x128 .bf16) : FVec F S32x128 .bf16 := grow a (s5 a) 0x4460#16 0x4080#16
def s7 (a : FVec F S32x128 .bf16) : FVec F S32x128 .bf16 := grow a (s6 a) 0x43E0#16 0x4000#16

/-- The scale of a group from its largest magnitude. -/
def scaleOf (a : FVec F S32x128 .bf16) : FVec F S32x128 .bf16 :=
  select (cmpf .olt a (splat 0x04E0#16)) (splat 0x3F80#16) (minimumf (s7 a) (splat 0x7B80#16))

/-- The scale of each group, found at its first lane, on every lane of the group. -/
def scaleChunk (x : FVec F S32x128 .bf16) : FVec F S32x128 .f32 :=
  dynamicGather 1 (extf .f32 (scaleOf (windowMax x)) bitsLt_bf16_f32) (wrap (andi lane (broadcast S32x128 4294967264#32)))

/-- The codes of a chunk. -/
def codeChunk (x : FVec F S32x128 .bf16) : FVec F S32x128 .fp8e4m3 :=
  truncf .fp8e4m3 (minimumf (broadcast S32x128 (Scalar.truncf .bf16 bitsLt_bf16_f32 (Scalar.ofBits .f32 0x43E00000#32)))
    (maximumf (broadcast S32x128 (Scalar.truncf .bf16 bitsLt_bf16_f32 (Scalar.ofBits .f32 0xC3E00000#32)))
      (mulf x (truncf .bf16 (divf (broadcast S32x128 (Scalar.ofBits .f32 0x3F800000#32)) (scaleChunk x)) bitsLt_bf16_f32)))) bitsLt_fp8e4m3_bf16

/-- The codes of a chunk times their scales. -/
def xbChunk (x : FVec F S32x128 .bf16) : FVec F S32x128 .bf16 :=
  shapeCast S32x128 (mulf (extf .bf16 (codeChunk x) bitsLt_fp8e4m3_bf16) (truncf .bf16 (scaleChunk x) bitsLt_bf16_f32))
    shapeCasts_S32x128_S32x128

/-- The four scales of chunk `n` put at the lanes `4n … 4n + 3`. -/
def packStep (n : ℕ) (t prev : FVec F S32x128 .f32) : FVec F S32x128 .f32 :=
  select (cmpi .eq (shrsi lane (broadcast S32x128 2#32)) (broadcast S32x128 (BitVec.ofNat 32 n)))
    (dynamicGather 1 t (wrap (muli (andi lane (broadcast S32x128 3#32)) (broadcast S32x128 32#32)))) prev

theorem off_row (k : Fin k0_t1_loop.trips) : k0_off1 k 0 = 32 * k.val := by
  have h_c0_i32_14 : Affine.IsInt 0#32 (0) := Affine.ofNat _ (by omega)
  have h_c0_i32_10 : Affine.IsInt 0#32 (0) := Affine.ofNat _ (by omega)
  have h_c1_i32_11 : Affine.IsInt 1#32 (1) := Affine.ofNat _ (by omega)
  have r_k0_t1 : k.val < 32 := Nat.lt_of_lt_of_le k.isLt k0_t1_abs.2.1
  have h_arg11 : Affine.IsInt _ ((k.val : Int)) := Affine.iv h_c0_i32_10 h_c1_i32_11 k.val (by omega)
  have h_c32_i32_13 : Affine.IsInt 32#32 (32) := Affine.ofNat _ (by omega)
  have h_v17 : Affine.IsInt _ (32 * (k.val : Int)) := Affine.muli h_arg11 h_c32_i32_13 (by omega)
  have h_v18 : Affine.IsInt _ (32 * (k.val : Int)) := Affine.addi h_c0_i32_14 h_v17 (by omega)
  have h_v22 : Affine.IsInt _ (32 * (k.val : Int)) := Affine.indexCast h_v18
  exact Affine.nat_eq h_v22 _ (by omega)

theorem inb_chunk (k : Fin k0_t1_loop.trips) (n : ℕ) (hn : n < 28) :
    ∀ a, (![k0_off1 k 0, 128 * n] : Fin 2 → ℕ) a + S32x128.size a ≤ S1024x3584.size a := fun a => by
  have hk : k.val < 32 := Nat.lt_of_lt_of_le k.isLt k0_t1_abs.2.1
  match a with
  | ⟨0, _⟩ => show k0_off1 k 0 + 32 ≤ 1024; rw [off_row]; omega
  | ⟨1, _⟩ => show 128 * n + 128 ≤ 3584; omega

theorem inb_scale (k : Fin k0_t1_loop.trips) :
    ∀ a, (![k0_off1 k 0, 0] : Fin 2 → ℕ) a + S32x112.size a ≤ S1024x112.size a := fun a => by
  have hk : k.val < 32 := Nat.lt_of_lt_of_le k.isLt k0_t1_abs.2.1
  match a with
  | ⟨0, _⟩ => show k0_off1 k 0 + 32 ≤ 1024; rw [off_row]; omega
  | ⟨1, _⟩ => show 0 + 112 ≤ 112; omega

/-- Chunk `n` of the rows of trip `k`. -/
def chunk (x : Vec F S1024x3584 .bf16) (k : Fin k0_t1_loop.trips) (n : ℕ) (hn : n < 28) : FVec F S32x128 .bf16 :=
  shapeCast S32x128 (View.ld x (Rect.unit ![k0_off1 k 0, 128 * n] S32x128.size (inb_chunk k n hn))) shapeCasts_S32x128_S32x128

/-- The stores of a trip's first `n` chunks, last first, for payloads `P`. -/
def tileList {e : EltTy} (P : (k : Fin k0_t1_loop.trips) → (n : ℕ) → n < 28 → Vec F S32x128 e) (k : Fin k0_t1_loop.trips) :
    (n : ℕ) → n ≤ 28 → List (View.Piece (Elt F) S1024x3584 e)
  | 0, _ => []
  | n + 1, h => ⟨Rect.unit ![k0_off1 k 0, 128 * n] S32x128.size (inb_chunk k n h), P k n h⟩
      :: tileList P k n (Nat.le_of_succ_le h)

/-- A trip's stores into the codes. -/
def codeList (x : Vec F S1024x3584 .bf16) (k : Fin k0_t1_loop.trips) : List (View.Piece (Elt F) S1024x3584 .fp8e4m3) :=
  tileList (e := .fp8e4m3) (fun k n h => codeChunk (chunk x k n h)) k 28 (Nat.le_refl _)

/-- A trip's stores into the scratch. -/
def xbList (x : Vec F S1024x3584 .bf16) (k : Fin k0_t1_loop.trips) : List (View.Piece (Elt F) S1024x3584 .bf16) :=
  tileList (e := .bf16) (fun k n h => xbChunk (chunk x k n h)) k 28 (Nat.le_refl _)

/-- The scales of a trip's first `n` chunks, four lanes per chunk. -/
def packed (x : Vec F S1024x3584 .bf16) (k : Fin k0_t1_loop.trips) : (n : ℕ) → n ≤ 28 → FVec F S32x128 .f32
  | 0, _ => broadcast S32x128 (Scalar.ofBits .f32 0x00000000#32)
  | n + 1, h => packStep n (scaleChunk (chunk x k n h)) (packed x k n (Nat.le_of_succ_le h))

/-- A trip's store into the scales. -/
def scaleList (x : Vec F S1024x3584 .bf16) (k : Fin k0_t1_loop.trips) : List (View.Piece (Elt F) S1024x112 .f32) :=
  [⟨Rect.unit ![k0_off1 k 0, 0] S32x112.size (inb_scale k),
    extractStridedSlice S32x112 ![0, 0] (packed x k 28 (Nat.le_refl _)) slices_S32x128_o0_0_S32x112⟩]

end Cert.KernelIdeal.Hand

end
-- ==== Proof.Kern.Trip.lean ====
/- The lists of stores the loop's run found are those of the chunks. -/
module

public import proofs.«01_k».proof.Proof.Kern.Chunk

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

set_option maxHeartbeats 2000000 in
/-- One trip's stores. -/
theorem tripL_eq (𝒱 : Variants) (c : Dev nD) (bd : Option 𝒱.V) (i : grid0.Coords) (arg3 : Memref sig .tc .vmem S1024x3584 .bf16) (harg3 : arg3.IsWhole) (arg4 : Memref sig .tc .vmem S3584x256 .i8) (harg4 : arg4.IsWhole) (arg5 : Memref sig .tc .vmem S112x256 .i8) (harg5 : arg5.IsWhole) (arg6 : Memref sig .tc .vmem S1024x256 .bf16) (harg6 : arg6.IsWhole) (arg7 : Memref sig .tc .vmem S1024x3584 .fp8e4m3) (harg7 : arg7.IsWhole) (arg8 : Memref sig .tc .vmem S1024x112 .f32) (harg8 : arg8.IsWhole) (arg9 : Memref sig .tc .vmem S1024x3584 .bf16) (harg9 : arg9.IsWhole) (arg10 : Memref sig .tc .vmem S3584x256 .bf16) (harg10 : arg10.IsWhole) (k0_h1 : k0_cond1 i = 1#1) (X_arg3 : BufTy.Contents (Elt F) arg3.view.ty) (k : Fin k0_t1_loop.trips) :
    tripL_k0_t1 (F := F) 𝒱 c bd i arg3 harg3 arg4 harg4 arg5 harg5 arg6 harg6 arg7 harg7 arg8 harg8 arg9 harg9 arg10 harg10 k0_h1 X_arg3 k
      = (codeList (arg3.view.read (Elt F) X_arg3) k, scaleList (arg3.view.read (Elt F) X_arg3) k,
          xbList (arg3.view.read (Elt F) X_arg3) k) := by
  delta tripL_k0_t1 trip_k0_t1
  refine Prod.ext ?_ (Prod.ext ?_ ?_)
  · rfl
  · rfl
  · rfl

end Cert.KernelIdeal.Hand

end
-- ==== Proof.Kern.Cover.lean ====
/- What the quantiser's loop leaves in the codes, the scales and the scratch. -/
module

public import proofs.«01_k».proof.Proof.Kern.Trip
public import Idealize.ShloMosaic.Lib.Pipeline.ValueKit.Geometry
public import Idealize.ShloMosaic.Lib.ValueIdxCore

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

open Idealize.ShloMosaic.ValueIdx

theorem trips_eq : k0_t1_loop.trips = 32 := by decide

/-- The stores of the trips before `n`, last first. -/
def allOf {α : Type} (L : Fin k0_t1_loop.trips → List α) : ℕ → List α
  | 0 => []
  | n + 1 => if h : n < k0_t1_loop.trips then L ⟨n, h⟩ ++ allOf L n else allOf L n

theorem mem_allOf {α : Type} (L : Fin k0_t1_loop.trips → List α) (p : α) (n : ℕ) (h : p ∈ allOf L n) : ∃ k, p ∈ L k := by
  induction n with
  | zero => simp [allOf] at h
  | succ n ih =>
    rw [allOf] at h
    split at h
    · rcases List.mem_append.mp h with h | h
      · exact ⟨_, h⟩
      · exact ih h
    · exact ih h

theorem mem_allOf_of {α : Type} (L : Fin k0_t1_loop.trips → List α) (p : α) (n : ℕ) (k : Fin k0_t1_loop.trips) (hk : k.val < n)
    (h : p ∈ L k) : p ∈ allOf L n := by
  induction n with
  | zero => omega
  | succ n ih =>
    rw [allOf]
    rcases Nat.lt_succ_iff_lt_or_eq.mp hk with hk | hk
    · split
      · exact List.mem_append_right _ (ih hk)
      · exact ih hk
    · subst hk
      rw [dif_pos k.isLt]
      exact List.mem_append_left _ h

theorem mem_tileList {e : EltTy} (P : (k : Fin k0_t1_loop.trips) → (n : ℕ) → n < 28 → Vec F S32x128 e) (k : Fin k0_t1_loop.trips)
    (p) (n : ℕ) (hn : n ≤ 28) (h : p ∈ tileList P k n hn) :
    ∃ m hm, p = ⟨Rect.unit ![k0_off1 k 0, 128 * m] S32x128.size (inb_chunk k m hm), P k m hm⟩ := by
  induction n with
  | zero => simp [tileList] at h
  | succ n ih =>
    rw [tileList] at h
    rcases List.mem_cons.mp h with h | h
    · exact ⟨n, hn, h⟩
    · exact ih _ h

theorem mem_tileList_of {e : EltTy} (P : (k : Fin k0_t1_loop.trips) → (n : ℕ) → n < 28 → Vec F S32x128 e) (k : Fin k0_t1_loop.trips)
    (m : ℕ) (hm : m < 28) (n : ℕ) (hn : n ≤ 28) (h : m < n) :
    (⟨Rect.unit ![k0_off1 k 0, 128 * m] S32x128.size (inb_chunk k m hm), P k m hm⟩ : View.Piece (Elt F) S1024x3584 e) ∈ tileList P k n hn := by
  induction n with
  | zero => omega
  | succ n ih =>
    rw [tileList]
    rcases Nat.lt_succ_iff_lt_or_eq.mp h with h | h
    · exact List.mem_cons_of_mem _ (ih _ h)
    · subst h; exact List.mem_cons_self

/-- The array the tiles `P` make up. -/
def glue {e : EltTy} (P : (k : Fin k0_t1_loop.trips) → (n : ℕ) → n < 28 → Vec F S32x128 e) : Vec F S1024x3584 e := fun y =>
  P ⟨(y 0).val / 32, by have := idx2_lt0 y; rw [trips_eq]; omega⟩ ((y 1).val / 128) (by have := idx2_lt1 y; omega)
    (ix2 ⟨(y 0).val % 32, Nat.mod_lt _ (by omega)⟩ ⟨(y 1).val % 128, Nat.mod_lt _ (by omega)⟩)

theorem glue_at {e : EltTy} (P : (k : Fin k0_t1_loop.trips) → (n : ℕ) → n < 28 → Vec F S32x128 e)
    (k : Fin k0_t1_loop.trips) (n : ℕ) (hn : n < 28) (x : S32x128.Idx) (y : S1024x3584.Idx)
    (h0 : (y 0).val = 32 * k.val + (x 0).val) (h1 : (y 1).val = 128 * n + (x 1).val) : glue P y = P k n hn x := by
  have key : ∀ (k' : Fin k0_t1_loop.trips) (n' : ℕ) (hn' : n' < 28) (x' : S32x128.Idx), k' = k → n' = n → x' = x →
      P k' n' hn' x' = P k n hn x := by rintro _ _ _ _ rfl rfl rfl; rfl
  have l0 : (x 0).val < 32 := idx2_lt0 x
  have l1 : (x 1).val < 128 := idx2_lt1 x
  refine key _ _ _ _ (Fin.ext ?_) ?_ ((eq_ix2 x).trans ?_).symm
  · show (y 0).val / 32 = k.val; omega
  · show (y 1).val / 128 = n; omega
  · congr 1
    · exact Fin.ext (by show (x 0).val = (y 0).val % 32; omega)
    · exact Fin.ext (by show (x 1).val = (y 1).val % 128; omega)

theorem tiles_cover {e : EltTy} (P : (k : Fin k0_t1_loop.trips) → (n : ℕ) → n < 28 → Vec F S32x128 e) (y : S1024x3584.Idx) :
    ∃ p ∈ allOf (fun k => tileList P k 28 (Nat.le_refl _)) k0_t1_loop.trips, y ∈ p.1.set := by
  have l0 := idx2_lt0 y
  have l1 := idx2_lt1 y
  have hk : (y 0).val / 32 < k0_t1_loop.trips := by rw [trips_eq]; omega
  refine ⟨_, mem_allOf_of _ _ _ ⟨_, hk⟩ hk (mem_tileList_of P ⟨_, hk⟩ ((y 1).val / 128) (by omega) 28 _ (by omega)), ?_⟩
  rw [Rect.mem_set_unit]
  intro a
  match a with
  | ⟨0, _⟩ =>
    show k0_off1 ⟨_, hk⟩ 0 ≤ (y 0).val ∧ (y 0).val < k0_off1 ⟨_, hk⟩ 0 + 32
    rw [off_row]; show 32 * ((y 0).val / 32) ≤ _ ∧ _ < 32 * ((y 0).val / 32) + 32; omega
  | ⟨1, _⟩ =>
    show 128 * ((y 1).val / 128) ≤ (y 1).val ∧ (y 1).val < 128 * ((y 1).val / 128) + 128; omega

theorem tiles_canon {e : EltTy} (P : (k : Fin k0_t1_loop.trips) → (n : ℕ) → n < 28 → Vec F S32x128 e) :
    View.canon (allOf (fun k => tileList P k 28 (Nat.le_refl _)) k0_t1_loop.trips) = glue P := by
  funext y
  refine View.canon_apply_of_pieces (glue P) _ (fun p hp x => ?_) y (tiles_cover P y)
  obtain ⟨k, hp⟩ := mem_allOf _ _ _ hp
  obtain ⟨n, hn, rfl⟩ := mem_tileList _ _ _ _ _ hp
  refine (glue_at P k n hn x _ ?_ ?_).symm
  · refine (ValueKit.rect_emb_unit_val (s := S1024x3584) ![k0_off1 k 0, 128 * n] S32x128.size (inb_chunk k n hn) x 0).trans ?_
    exact congrArg (· + _) (off_row k)
  · exact ValueKit.rect_emb_unit_val (s := S1024x3584) ![k0_off1 k 0, 128 * n] S32x128.size (inb_chunk k n hn) x 1

/-- The codes of a block of rows. -/
def codeB (x : Vec F S1024x3584 .bf16) : Vec F S1024x3584 .fp8e4m3 := glue (e := .fp8e4m3) fun k n h => codeChunk (chunk x k n h)

/-- The codes of a block of rows times their scales. -/
def xbB (x : Vec F S1024x3584 .bf16) : Vec F S1024x3584 .bf16 := glue (e := .bf16) fun k n h => xbChunk (chunk x k n h)

/-- The scales of a block of rows. -/
def scaleB (x : Vec F S1024x3584 .bf16) : Vec F S1024x112 .f32 := fun y =>
  extractStridedSlice S32x112 ![0, 0] (packed x ⟨(y 0).val / 32, by have := idx2_lt0 y; rw [trips_eq]; omega⟩ 28 (Nat.le_refl _))
    slices_S32x128_o0_0_S32x112 (ix2 ⟨(y 0).val % 32, Nat.mod_lt _ (by omega)⟩ (y 1))

theorem scales_cover (x : Vec F S1024x3584 .bf16) (y : S1024x112.Idx) :
    ∃ p ∈ allOf (fun k => scaleList x k) k0_t1_loop.trips, y ∈ p.1.set := by
  have l0 := idx2_lt0 y
  have l1 := idx2_lt1 y
  have hk : (y 0).val / 32 < k0_t1_loop.trips := by rw [trips_eq]; omega
  refine ⟨_, mem_allOf_of _ _ _ ⟨_, hk⟩ hk (List.mem_singleton_self _), ?_⟩
  rw [Rect.mem_set_unit]
  intro a
  match a with
  | ⟨0, _⟩ =>
    show k0_off1 ⟨_, hk⟩ 0 ≤ (y 0).val ∧ (y 0).val < k0_off1 ⟨_, hk⟩ 0 + 32
    rw [off_row]; show 32 * ((y 0).val / 32) ≤ _ ∧ _ < 32 * ((y 0).val / 32) + 32; omega
  | ⟨1, _⟩ => show 0 ≤ (y 1).val ∧ (y 1).val < 0 + 112; omega

theorem scaleB_at (x : Vec F S1024x3584 .bf16) (k : Fin k0_t1_loop.trips) (z : S32x112.Idx) (y : S1024x112.Idx)
    (h0 : (y 0).val = 32 * k.val + (z 0).val) (h1 : (y 1).val = (z 1).val) :
    scaleB x y = extractStridedSlice S32x112 ![0, 0] (packed x k 28 (Nat.le_refl _)) slices_S32x128_o0_0_S32x112 z := by
  have l0 : (z 0).val < 32 := idx2_lt0 z
  have key : ∀ (k' : Fin k0_t1_loop.trips) (z' : S32x112.Idx), k' = k → z' = z →
      extractStridedSlice S32x112 ![0, 0] (packed x k' 28 (Nat.le_refl _)) slices_S32x128_o0_0_S32x112 z'
        = extractStridedSlice S32x112 ![0, 0] (packed x k 28 (Nat.le_refl _)) slices_S32x128_o0_0_S32x112 z := by
    rintro _ _ rfl rfl; rfl
  refine key _ _ (Fin.ext ?_) ((eq_ix2 z).trans ?_).symm
  · show (y 0).val / 32 = k.val; omega
  · congr 1
    · exact Fin.ext (by show (z 0).val = (y 0).val % 32; omega)
    · exact Fin.ext h1.symm

theorem scales_canon (x : Vec F S1024x3584 .bf16) :
    View.canon (allOf (fun k => scaleList x k) k0_t1_loop.trips) = scaleB x := by
  funext y
  refine View.canon_apply_of_pieces (scaleB x) _ (fun p hp z => ?_) y (scales_cover x y)
  obtain ⟨k, hp⟩ := mem_allOf _ _ _ hp
  obtain rfl := List.mem_singleton.mp hp
  refine (scaleB_at x k z _ ?_ ?_).symm
  · refine (ValueKit.rect_emb_unit_val (s := S1024x112) ![k0_off1 k 0, 0] S32x112.size (inb_scale k) z 0).trans ?_
    exact congrArg (· + _) (off_row k)
  · exact (ValueKit.rect_emb_unit_val (s := S1024x112) ![k0_off1 k 0, 0] S32x112.size (inb_scale k) z 1).trans (Nat.zero_add _)

/-- The stores of the loop, into its three buffers. -/
theorem pb_eq (𝒱 : Variants) (c : Dev nD) (bd : Option 𝒱.V) (i : grid0.Coords) (arg3 : Memref sig .tc .vmem S1024x3584 .bf16) (harg3 : arg3.IsWhole) (arg4 : Memref sig .tc .vmem S3584x256 .i8) (harg4 : arg4.IsWhole) (arg5 : Memref sig .tc .vmem S112x256 .i8) (harg5 : arg5.IsWhole) (arg6 : Memref sig .tc .vmem S1024x256 .bf16) (harg6 : arg6.IsWhole) (arg7 : Memref sig .tc .vmem S1024x3584 .fp8e4m3) (harg7 : arg7.IsWhole) (arg8 : Memref sig .tc .vmem S1024x112 .f32) (harg8 : arg8.IsWhole) (arg9 : Memref sig .tc .vmem S1024x3584 .bf16) (harg9 : arg9.IsWhole) (arg10 : Memref sig .tc .vmem S3584x256 .bf16) (harg10 : arg10.IsWhole) (k0_h1 : k0_cond1 i = 1#1) (X_arg3 : BufTy.Contents (Elt F) arg3.view.ty) (n : ℕ) (hn : n ≤ k0_t1_loop.trips) :
    pb_k0_t1 (F := F) 𝒱 c bd i arg3 harg3 arg4 harg4 arg5 harg5 arg6 harg6 arg7 harg7 arg8 harg8 arg9 harg9 arg10 harg10 k0_h1 X_arg3 n
      = (allOf (fun k => codeList (arg3.view.read (Elt F) X_arg3) k) n, allOf (fun k => scaleList (arg3.view.read (Elt F) X_arg3) k) n,
          allOf (fun k => xbList (arg3.view.read (Elt F) X_arg3) k) n) := by
  induction n with
  | zero => rfl
  | succ n ih =>
    refine (pb_k0_t1_succ 𝒱 c bd i arg3 harg3 arg4 harg4 arg5 harg5 arg6 harg6 arg7 harg7 arg8 harg8 arg9 harg9 arg10 harg10 k0_h1 X_arg3 ⟨n, hn⟩).trans ?_
    rw [tripL_eq, ih (Nat.le_of_succ_le hn), allOf, allOf, allOf, dif_pos (show n < k0_t1_loop.trips from hn), dif_pos (show n < k0_t1_loop.trips from hn), dif_pos (show n < k0_t1_loop.trips from hn)]

end Cert.KernelIdeal.Hand

end
-- ==== Proof.Kern.Spec.lean ====
/- The quantiser's mathematics on the extended reals: the least power of two that fits, and the search that finds it. -/
module

public import Idealize.ShloMosaic.PureOps.Ideal.Laws
public import Mathlib.Tactic.Linarith
public import Mathlib.Tactic.NormNum
public import Mathlib.Tactic.Ring
public import Mathlib.Tactic.Positivity

@[expose] public section

noncomputable section

namespace Cert.Spec

open Idealize.ShloMosaic

/-- The largest magnitude of 32 elements. -/
def gmax (f : Fin 32 → EReal) : EReal := (Finset.univ : Finset (Fin 32)).fold max ⊥ fun i => max (f i) (-(f i))

theorem gmax_le (f : Fin 32 → EReal) (b : EReal) : gmax f ≤ b ↔ ∀ i, max (f i) (-(f i)) ≤ b := by
  unfold gmax
  rw [Finset.fold_max_le]
  simp

/-- A power of two. -/
def pw (k : ℤ) : EReal := (((2 : ℝ) ^ k : ℝ) : EReal)

theorem pw_mono {j k : ℤ} (h : j ≤ k) : pw j ≤ pw k := by
  unfold pw
  exact EReal.coe_le_coe_iff.mpr (zpow_le_zpow_right₀ (by norm_num) h)

theorem pw_mul (j k : ℤ) : pw j * pw k = pw (j + k) := by
  unfold pw
  rw [← EReal.coe_mul, zpow_add₀ (by norm_num)]

theorem pw_min (j k : ℤ) : min (pw j) (pw k) = pw (min j k) := by
  rcases le_total j k with h | h
  · rw [min_eq_left h, min_eq_left (pw_mono h)]
  · rw [min_eq_right h, min_eq_right (pw_mono h)]

theorem pw_ne_zero (k : ℤ) : pw k ≠ 0 := by
  unfold pw
  have h : (2 : ℝ) ^ k ≠ 0 := zpow_ne_zero _ (by norm_num)
  exact_mod_cast h

/-- Whether a largest magnitude fits under `448 · 2^k`. -/
def fits (a : EReal) (k : ℤ) : Prop := a < ((448 : ℝ) : EReal) * pw k

theorem fits_mono {a : EReal} {j k : ℤ} (h : j ≤ k) (hj : fits a j) : fits a k := by
  refine lt_of_lt_of_le hj ?_
  unfold pw
  rw [← EReal.coe_mul, ← EReal.coe_mul]
  exact EReal.coe_le_coe_iff.mpr (mul_le_mul_of_nonneg_left (zpow_le_zpow_right₀ (by norm_num) h) (by norm_num))

open Classical in
/-- The scale of a group whose largest magnitude is `a`. -/
def scale (a : EReal) : EReal :=
  if fits a (-126) then 1
  else (Finset.univ : Finset (Fin 246)).fold min ⊤ fun i => if fits a ((i.val : ℤ) - 125) then pw ((i.val : ℤ) - 125) else pw 120

theorem scale_tiny {a : EReal} (h : fits a (-126)) : scale a = 1 := if_pos h

open Classical in
theorem scale_of_least {a : EReal} (ha : ¬ fits a (-126)) (m : ℤ) (hm : -125 ≤ m) (h1 : ∀ k, -125 ≤ k → k < m → ¬ fits a k)
    (h2 : fits a m ∨ 120 ≤ m) : scale a = pw (min m 120) := by
  unfold scale
  rw [if_neg ha]
  refine le_antisymm ?_ ?_
  · rw [Finset.fold_min_le]
    refine Or.inr ⟨⟨(min m 120 + 125).toNat, by omega⟩, Finset.mem_univ _, ?_⟩
    have e : (((min m 120 + 125).toNat : ℕ) : ℤ) - 125 = min m 120 := by omega
    show (if fits a ((((min m 120 + 125).toNat : ℕ) : ℤ) - 125) then pw ((((min m 120 + 125).toNat : ℕ) : ℤ) - 125) else pw 120) ≤ _
    rw [e]
    split
    · exact le_refl _
    · rename_i h
      rcases h2 with h2 | h2
      · by_cases h3 : m ≤ 120
        · rw [min_eq_left h3] at h; exact absurd h2 h
        · rw [min_eq_right (by omega)]
      · rw [min_eq_right h2]
  · rw [Finset.le_fold_min]
    refine ⟨le_top, fun i _ => ?_⟩
    split
    · rename_i h
      refine pw_mono ?_
      by_contra hlt
      exact h1 ((i.val : ℤ) - 125) (by omega) (by omega) h
    · exact pw_mono (min_le_right _ _)

/-- Before a step of the search: `s` is the power `2^m`, no smaller power fits, and the least that fits lies
    within the `n` from `m` on or past 120. -/
def Inv (a s : EReal) (n : ℕ) : Prop :=
  ∃ m : ℤ, s = pw m ∧ -125 ≤ m ∧ (∀ k, -125 ≤ k → k < m → ¬ fits a k) ∧ (fits a (m + n - 1) ∨ 120 ≤ m + n - 1)

theorem Inv.step {a s K w : EReal} {p : ℕ} (h : Inv a s (2 * p)) (hK : K = ((448 : ℝ) : EReal) * pw (p - 1)) (hw : w = pw p) :
    Inv a (Scalar.select (Ideal.cmp .olt a (s * K)) s (s * w)) p := by
  obtain ⟨m, rfl, hm, h1, h2⟩ := h
  subst hK hw
  have e : pw m * (((448 : ℝ) : EReal) * pw (p - 1)) = ((448 : ℝ) : EReal) * pw (m + p - 1) := by
    rw [mul_left_comm, pw_mul, show m + ((p : ℤ) - 1) = m + p - 1 by omega]
  rw [e]
  by_cases hf : a < ((448 : ℝ) : EReal) * pw (m + p - 1)
  · have c : Ideal.cmp .olt a (((448 : ℝ) : EReal) * pw (m + p - 1)) = 1#1 := by
      show BitVec.ofBool (decide _) = _; rw [decide_eq_true hf]; rfl
    rw [c]
    exact ⟨m, rfl, hm, h1, Or.inl hf⟩
  · have c : Ideal.cmp .olt a (((448 : ℝ) : EReal) * pw (m + p - 1)) = 0#1 := by
      show BitVec.ofBool (decide _) = _; rw [decide_eq_false hf]; rfl
    rw [c]
    refine ⟨m + p, pw_mul _ _, by omega, fun k _ hk hfk => hf (fits_mono (by omega) hfk), ?_⟩
    rcases h2 with h2 | h2
    · exact Or.inl (by rw [show m + (p : ℤ) + p - 1 = m + ((2 * p : ℕ) : ℤ) - 1 by omega]; exact h2)
    · exact Or.inr (by omega)

theorem Inv.final {a s : EReal} (ha : ¬ fits a (-126)) (h : Inv a s 1) : min s (pw 120) = scale a := by
  obtain ⟨m, rfl, hm, h1, h2⟩ := h
  rw [scale_of_least ha m hm h1 (by simpa using h2), pw_min]

theorem Inv.start (a : EReal) : Inv a (Scalar.select (Ideal.cmp .olt a ((448 : ℝ) : EReal)) (pw (-125)) (pw 1)) 128 := by
  have e : ((448 : ℝ) : EReal) * pw 0 = ((448 : ℝ) : EReal) := by unfold pw; simp
  by_cases hf : a < ((448 : ℝ) : EReal)
  · have c : Ideal.cmp .olt a ((448 : ℝ) : EReal) = 1#1 := by
      show BitVec.ofBool (decide _) = _; rw [decide_eq_true hf]; rfl
    rw [c]
    exact ⟨-125, rfl, le_refl _, fun k _ _ => by omega, Or.inl (fits_mono (j := 0) (by omega) (by unfold fits; rw [e]; exact hf))⟩
  · have c : Ideal.cmp .olt a ((448 : ℝ) : EReal) = 0#1 := by
      show BitVec.ofBool (decide _) = _; rw [decide_eq_false hf]; rfl
    rw [c]
    exact ⟨1, rfl, by omega, fun k _ hk hfk => hf (by have := fits_mono (k := 0) (by omega) hfk; unfold fits at this; rwa [e] at this), Or.inr (by omega)⟩

/-- The pattern of a power of two times `448` or `1`, in binary32. -/
theorem ofBits_pw (b : BitVec 32) (k : ℤ) (hs : b.extractLsb' 31 1 = 0#1) (he : ((b.extractLsb' 23 8).toNat : ℤ) = k + 127)
    (h0 : (b.extractLsb' 23 8).toNat ≠ 0) (h255 : (b.extractLsb' 23 8).toNat ≠ 255) (hf : (b.extractLsb' 0 23).toNat = 0) :
    Ideal.ofBits .f32 b = pw k := by
  show Ideal.ieee 8 23 b = _
  unfold Ideal.ieee
  have hs' : b.extractLsb' (8 + 23) 1 = 0#1 := hs
  simp only [hs', hf]
  rw [if_neg (show ¬ (b.extractLsb' 23 8).toNat = 2 ^ 8 - 1 from h255), if_neg h0, he]
  unfold pw
  congr 1
  rw [show (k + 127 - (2 ^ (8 - 1) - 1) - ((23 : ℕ) : ℤ) : ℤ) = k - 23 by norm_num, zpow_sub₀ (by norm_num : (2 : ℝ) ≠ 0)]
  norm_num
  ring

theorem ofBits_448pw (b : BitVec 32) (k : ℤ) (hs : b.extractLsb' 31 1 = 0#1) (he : ((b.extractLsb' 23 8).toNat : ℤ) = k + 8 + 127)
    (h0 : (b.extractLsb' 23 8).toNat ≠ 0) (h255 : (b.extractLsb' 23 8).toNat ≠ 255) (hf : (b.extractLsb' 0 23).toNat = 6291456) :
    Ideal.ofBits .f32 b = ((448 : ℝ) : EReal) * pw k := by
  show Ideal.ieee 8 23 b = _
  unfold Ideal.ieee
  have hs' : b.extractLsb' (8 + 23) 1 = 0#1 := hs
  simp only [hs', hf]
  rw [if_neg (show ¬ (b.extractLsb' 23 8).toNat = 2 ^ 8 - 1 from h255), if_neg h0, he]
  unfold pw
  rw [← EReal.coe_mul]
  congr 1
  rw [show (k + 8 + 127 - (2 ^ (8 - 1) - 1) - ((23 : ℕ) : ℤ) : ℤ) = k + (8 - 23) by norm_num; ring, zpow_add₀ (by norm_num : (2 : ℝ) ≠ 0)]
  norm_num
  ring

/-! ## One row of x: its scales, codes and dequantised elements -/

/-- The elements of group `g` of a row. -/
def grp (row : Fin 3584 → EReal) (g : Fin 112) : Fin 32 → EReal := fun i => row ⟨32 * g.val + i.val, by omega⟩

/-- The group of a column. -/
def groupOf (d : Fin 3584) : Fin 112 := ⟨d.val / 32, by omega⟩

def rowScale (row : Fin 3584 → EReal) (g : Fin 112) : EReal := scale (gmax (grp row g))

def rowCode (row : Fin 3584 → EReal) (d : Fin 3584) : EReal :=
  min (Ideal.ofBits .f32 0x43E00000#32) (max (Ideal.ofBits .f32 0xC3E00000#32) (row d * Ideal.div 1 (rowScale row (groupOf d))))

def rowXb (row : Fin 3584 → EReal) (d : Fin 3584) : EReal := rowCode row d * rowScale row (groupOf d)

/-! ## One weight -/

/-- The magnitudes of e2m1. -/
def mag : ℕ → ℝ
  | 0 => 0
  | 1 => 1 / 2
  | 2 => 1
  | 3 => 3 / 2
  | 4 => 2
  | 5 => 3
  | 6 => 4
  | _ => 6

/-- The value of a nibble. -/
def dec (n : ℕ) : EReal := ((if n < 8 then mag n else -mag (n - 8) : ℝ) : EReal)

/-- The value of a scale byte. -/
def e8 (b : BitVec 8) : EReal := if b = 0#8 then 0 else if b = 255#8 then ⊤ else pw ((b.toNat : ℤ) - 127)

/-- The low and the high nibble of a byte. -/
def nibLo (b : BitVec 8) : ℕ := b.toNat % 16
def nibHi (b : BitVec 8) : ℕ := b.toNat / 16

theorem nibLo_lt (b : BitVec 8) : nibLo b < 16 := Nat.mod_lt _ (by omega)
theorem nibHi_lt (b : BitVec 8) : nibHi b < 16 := by
  have : b.toNat < 256 := b.isLt
  unfold nibHi; omega

/-- Column `C` of the weights: the low nibbles hold the first half of the columns, the high nibbles the second. -/
def colW (wp : Fin 3584 → Fin 9472 → BitVec 8) (ws : Fin 112 → Fin 18944 → BitVec 8) (C : Fin 18944) (k : Fin 3584) : EReal :=
  (if h : C.val < 9472 then dec (nibLo (wp k ⟨C.val, h⟩)) else dec (nibHi (wp k ⟨C.val - 9472, by omega⟩))) * e8 (ws (groupOf k) C)

/-- One element of the product. -/
def prodAt (x : Fin 12288 → Fin 3584 → EReal) (wp : Fin 3584 → Fin 9472 → BitVec 8) (ws : Fin 112 → Fin 18944 → BitVec 8)
    (R : Fin 12288) (C : Fin 18944) : EReal :=
  ∑ k : Fin 3584, rowXb (x R) k * colW wp ws C k

end Cert.Spec

end
-- ==== Proof.Kern.Search.lean ====
/- The search of a chunk, on the extended reals: it finds the least power of two that fits. -/
module

public import proofs.«01_k».proof.Proof.Kern.Cover
public import proofs.«01_k».proof.Proof.Kern.Spec

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Spec

/-- The normal patterns of bfloat16 with no fraction. -/
theorem pwOf (b : BitVec 16) (k : ℤ) (h : b.extractLsb' 15 1 = 0#1 ∧ ((b.extractLsb' 7 8).toNat : ℤ) = k + 127 ∧
    (b.extractLsb' 7 8).toNat ≠ 0 ∧ (b.extractLsb' 7 8).toNat ≠ 255 ∧ (b.extractLsb' 0 7).toNat = 0) : Ideal.ofBits .bf16 b = pw k := by
  obtain ⟨hs, he, h0, h255, hf⟩ := h
  show Ideal.ieee 8 7 b = _
  unfold Ideal.ieee
  have hs' : b.extractLsb' (8 + 7) 1 = 0#1 := hs
  simp only [hs', hf]
  rw [if_neg (show ¬ (b.extractLsb' 7 8).toNat = 2 ^ 8 - 1 from h255), if_neg h0, he]
  unfold pw
  congr 1
  rw [show (k + 127 - (2 ^ (8 - 1) - 1) - ((7 : ℕ) : ℤ) : ℤ) = k - 7 by norm_num, zpow_sub₀ (by norm_num : (2 : ℝ) ≠ 0)]
  norm_num
  ring

/-- The normal patterns of bfloat16 with the fraction of 448. -/
theorem pw448Of (b : BitVec 16) (k : ℤ) (h : b.extractLsb' 15 1 = 0#1 ∧ ((b.extractLsb' 7 8).toNat : ℤ) = k + 8 + 127 ∧
    (b.extractLsb' 7 8).toNat ≠ 0 ∧ (b.extractLsb' 7 8).toNat ≠ 255 ∧ (b.extractLsb' 0 7).toNat = 96) :
    Ideal.ofBits .bf16 b = ((448 : ℝ) : EReal) * pw k := by
  obtain ⟨hs, he, h0, h255, hf⟩ := h
  show Ideal.ieee 8 7 b = _
  unfold Ideal.ieee
  have hs' : b.extractLsb' (8 + 7) 1 = 0#1 := hs
  simp only [hs', hf]
  rw [if_neg (show ¬ (b.extractLsb' 7 8).toNat = 2 ^ 8 - 1 from h255), if_neg h0, he]
  unfold pw
  rw [← EReal.coe_mul]
  congr 1
  rw [show (k + 8 + 127 - (2 ^ (8 - 1) - 1) - ((7 : ℕ) : ℤ) : ℤ) = k + (8 - 7) by norm_num; ring, zpow_add₀ (by norm_num : (2 : ℝ) ≠ 0)]
  norm_num
  ring

theorem k64 : Ideal.ofBits .bf16 0x6360#16 = ((448 : ℝ) : EReal) * pw ((64 : ℕ) - 1) := pw448Of _ _ (by decide)
theorem k32 : Ideal.ofBits .bf16 0x5360#16 = ((448 : ℝ) : EReal) * pw ((32 : ℕ) - 1) := pw448Of _ _ (by decide)
theorem k16 : Ideal.ofBits .bf16 0x4B60#16 = ((448 : ℝ) : EReal) * pw ((16 : ℕ) - 1) := pw448Of _ _ (by decide)
theorem k8 : Ideal.ofBits .bf16 0x4760#16 = ((448 : ℝ) : EReal) * pw ((8 : ℕ) - 1) := pw448Of _ _ (by decide)
theorem k4 : Ideal.ofBits .bf16 0x4560#16 = ((448 : ℝ) : EReal) * pw ((4 : ℕ) - 1) := pw448Of _ _ (by decide)
theorem k2 : Ideal.ofBits .bf16 0x4460#16 = ((448 : ℝ) : EReal) * pw ((2 : ℕ) - 1) := pw448Of _ _ (by decide)
theorem k1 : Ideal.ofBits .bf16 0x43E0#16 = ((448 : ℝ) : EReal) * pw ((1 : ℕ) - 1) := pw448Of _ _ (by decide)
theorem ktiny : Ideal.ofBits .bf16 0x04E0#16 = ((448 : ℝ) : EReal) * pw (-126) := pw448Of _ _ (by decide)
theorem k448 : Ideal.ofBits .bf16 0x43E0#16 = ((448 : ℝ) : EReal) := by
  rw [k1, show (((1 : ℕ) : ℤ) - 1) = 0 from rfl]; unfold pw; simp
theorem one16 : Ideal.ofBits .bf16 0x3F80#16 = 1 := by
  rw [pwOf 0x3F80#16 0 (by decide)]; unfold pw; simp
theorem one32 : Ideal.ofBits .f32 0x3F800000#32 = 1 := by
  rw [ofBits_pw 0x3F800000#32 0 (by decide) (by decide) (by decide) (by decide) (by decide)]; unfold pw; simp

theorem inv0 (a : FVec Ideal S32x128 .bf16) (i : S32x128.Idx) : Inv (a i) (s0 a i) 128 := by
  have e1 : s0 a i = Scalar.select (Ideal.cmp .olt (a i) (Ideal.ofBits .bf16 0x43E0#16)) (Ideal.ofBits .bf16 0x0100#16) (Ideal.ofBits .bf16 0x4000#16) := rfl
  rw [e1, k448, pwOf 0x0100#16 (-125) (by decide), pwOf 0x4000#16 1 (by decide)]
  exact Inv.start _

theorem inv_grow (a s : FVec Ideal S32x128 .bf16) (i : S32x128.Idx) (n p : ℕ) (hn : n = 2 * p) (k w : BitVec 16) (h : Inv (a i) (s i) n)
    (hK : Ideal.ofBits .bf16 k = ((448 : ℝ) : EReal) * pw (p - 1)) (hw : Ideal.ofBits .bf16 w = pw p) : Inv (a i) (grow a s k w i) p := by
  subst hn
  have e : grow a s k w i = Scalar.select (Ideal.cmp .olt (a i) (s i * Ideal.ofBits .bf16 k)) (s i) (s i * Ideal.ofBits .bf16 w) := rfl
  rw [e]
  exact h.step hK hw

theorem inv1 (a : FVec Ideal S32x128 .bf16) (i : S32x128.Idx) : Inv (a i) (s1 a i) 64 :=
  inv_grow a (s0 a) i 128 64 rfl 0x6360#16 0x5F80#16 (inv0 a i) k64 (pwOf _ _ (by decide))
theorem inv2 (a : FVec Ideal S32x128 .bf16) (i : S32x128.Idx) : Inv (a i) (s2 a i) 32 :=
  inv_grow a (s1 a) i 64 32 rfl 0x5360#16 0x4F80#16 (inv1 a i) k32 (pwOf _ _ (by decide))
theorem inv3 (a : FVec Ideal S32x128 .bf16) (i : S32x128.Idx) : Inv (a i) (s3 a i) 16 :=
  inv_grow a (s2 a) i 32 16 rfl 0x4B60#16 0x4780#16 (inv2 a i) k16 (pwOf _ _ (by decide))
theorem inv4 (a : FVec Ideal S32x128 .bf16) (i : S32x128.Idx) : Inv (a i) (s4 a i) 8 :=
  inv_grow a (s3 a) i 16 8 rfl 0x4760#16 0x4380#16 (inv3 a i) k8 (pwOf _ _ (by decide))
theorem inv5 (a : FVec Ideal S32x128 .bf16) (i : S32x128.Idx) : Inv (a i) (s5 a i) 4 :=
  inv_grow a (s4 a) i 8 4 rfl 0x4560#16 0x4180#16 (inv4 a i) k4 (pwOf _ _ (by decide))
theorem inv6 (a : FVec Ideal S32x128 .bf16) (i : S32x128.Idx) : Inv (a i) (s6 a i) 2 :=
  inv_grow a (s5 a) i 4 2 rfl 0x4460#16 0x4080#16 (inv5 a i) k2 (pwOf _ _ (by decide))
theorem inv7 (a : FVec Ideal S32x128 .bf16) (i : S32x128.Idx) : Inv (a i) (s7 a i) 1 :=
  inv_grow a (s6 a) i 2 1 rfl 0x43E0#16 0x4000#16 (inv6 a i) k1 (pwOf _ _ (by decide))

/-- The scale the search finds. -/
theorem scaleOf_apply (a : FVec Ideal S32x128 .bf16) (i : S32x128.Idx) : scaleOf a i = scale (a i) := by
  have e : scaleOf a i = Scalar.select (Ideal.cmp .olt (a i) (Ideal.ofBits .bf16 0x04E0#16)) (Ideal.ofBits .bf16 0x3F80#16)
    (min (s7 a i) (Ideal.ofBits .bf16 0x7B80#16)) := rfl
  rw [e, ktiny, one16, pwOf 0x7B80#16 120 (by decide)]
  by_cases h : a i < ((448 : ℝ) : EReal) * pw (-126)
  · have c : Ideal.cmp .olt (a i) (((448 : ℝ) : EReal) * pw (-126)) = 1#1 := by
      show BitVec.ofBool (decide _) = _; rw [decide_eq_true h]; rfl
    rw [c, scale_tiny h]
    rfl
  · have c : Ideal.cmp .olt (a i) (((448 : ℝ) : EReal) * pw (-126)) = 0#1 := by
      show BitVec.ofBool (decide _) = _; rw [decide_eq_false h]; rfl
    rw [c]
    exact Inv.final h (inv7 a i)

end Cert.KernelIdeal.Hand

end
-- ==== Proof.Kern.Lanes.lean ====
/- The lanes of a chunk: the group scale and the packing of the scales, on the extended reals. -/
module

public import proofs.«01_k».proof.Proof.Kern.Search
public import Idealize.ShloMosaic.Lib.KernelVsHost
public import Idealize.ShloMosaic.Lib.Pointwise.Reduce

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Spec Idealize.ShloMosaic.ValueIdx

/-- The lane at position `l`, as the words of a gather's index count it. -/
def wrapWord (v : BitVec 32) : BitVec 32 := Scalar.select (IntOp.cmpi .slt v 0#32) (IntOp.addi v 128#32) v

theorem wrap_apply (v : IVec S32x128 32) (i : S32x128.Idx) : wrap v i = wrapWord (v i) := by
  unfold wrap
  rw [shapeCast_shapeCast]
  rfl

theorem lane_apply (r : Fin 32) (l : Fin 128) : lane (ValueIdx.ix2 r l) = BitVec.ofNat 32 l.val := by
  unfold lane
  rw [iota_single_apply]

theorem gather_apply {α : Type} (x : S32x128.Idx → α) (idx : IVec S32x128 32) (r : Fin 32) (l k : Fin 128)
    (h : (idx (ValueIdx.ix2 r l)).toNat % 128 = k.val) : dynamicGather 1 x idx (ValueIdx.ix2 r l) = x (ValueIdx.ix2 r k) := by
  unfold dynamicGather
  refine congrArg x (funext fun b => ?_)
  match b with
  | ⟨0, _⟩ => rfl
  | ⟨1, _⟩ => exact Fin.ext h

theorem group_word : ∀ l : Fin 128, (wrapWord (IntOp.andi (BitVec.ofNat 32 l.val) 4294967264#32)).toNat % 128 = 32 * (l.val / 32) := by
  decide +kernel

theorem quarter_word : ∀ l : Fin 128, (wrapWord (IntOp.muli (IntOp.andi (BitVec.ofNat 32 l.val) 3#32) 32#32)).toNat % 128 = 32 * (l.val % 4) := by
  decide +kernel

theorem chunk_word : ∀ l : Fin 128, ∀ n : Fin 28, IntOp.cmpi .eq (IntOp.shrsi .vector (BitVec.ofNat 32 l.val) 2#32) (BitVec.ofNat 32 n.val) = if l.val / 4 = n.val then 1#1 else 0#1 := by
  decide +kernel

/-- The lane `n`, counted around the end. -/
def at_ (a : FVec Ideal S32x128 .bf16) (r : Fin 32) (n : ℕ) : EReal := a (ValueIdx.ix2 r ⟨n % 128, Nat.mod_lt _ (by omega)⟩)

theorem rollMax_at (w : BitVec 32) (s : ℕ) (hs : s < 128) (hw : w.toNat = 128 - s) (h0 : 0 < s) (a : FVec Ideal S32x128 .bf16) (r : Fin 32) (n : ℕ) :
    at_ (rollMax w a) r n = max (at_ a r n) (at_ a r (n + s)) := by
  have e : dynamicRotate 1 w none a rotates_S32x128_d1 (ValueIdx.ix2 r ⟨n % 128, Nat.mod_lt _ (by omega)⟩)
      = a (ValueIdx.ix2 r ⟨(n + s) % 128, Nat.mod_lt _ (by omega)⟩) :=
    dynamicRotate_apply 1 w a _ _ _ fun b => by
      match b with
      | ⟨0, _⟩ => rfl
      | ⟨1, _⟩ =>
        show (n + s) % 128 = (n % 128 + 128 - w.toNat % 128) % 128
        rw [hw]; omega
  show max (a _) (dynamicRotate 1 w none a rotates_S32x128_d1 (ValueIdx.ix2 r ⟨n % 128, Nat.mod_lt _ (by omega)⟩)) = _
  rw [e]
  rfl

/-- One more rotation doubles the lanes a maximum covers. -/
theorem roll_le (w : BitVec 32) (s m : ℕ) (hs : s < 128) (hw : w.toNat = 128 - s) (h0 : 0 < s) (a : FVec Ideal S32x128 .bf16) (f : ℕ → EReal) (r : Fin 32) (b : EReal)
    (h : ∀ n, at_ a r n ≤ b ↔ ∀ i < m, f (n + 2 * s * i) ≤ b) (n : ℕ) :
    at_ (rollMax w a) r n ≤ b ↔ ∀ i < 2 * m, f (n + s * i) ≤ b := by
  rw [rollMax_at w s hs hw h0, max_le_iff, h, h]
  constructor
  · rintro ⟨h1, h2⟩ i hi
    rcases Nat.mod_two_eq_zero_or_one i with e | e
    · have := h1 (i / 2) (by omega)
      rwa [show n + 2 * s * (i / 2) = n + s * i by
        rw [Nat.mul_comm 2 s, Nat.mul_assoc, show 2 * (i / 2) = i by omega]] at this
    · have := h2 (i / 2) (by omega)
      rwa [show n + s + 2 * s * (i / 2) = n + s * i by
        rw [Nat.mul_comm 2 s, Nat.mul_assoc, Nat.add_assoc, Nat.add_comm s, ← Nat.mul_succ, show (2 * (i / 2)).succ = i by omega]] at this
  · intro h'
    refine ⟨fun i hi => ?_, fun i hi => ?_⟩
    · have := h' (2 * i) (by omega)
      rwa [show n + s * (2 * i) = n + 2 * s * i by rw [Nat.mul_comm 2 s, Nat.mul_assoc]] at this
    · have := h' (2 * i + 1) (by omega)
      rwa [show n + s * (2 * i + 1) = n + s + 2 * s * i by rw [Nat.mul_succ, Nat.mul_comm 2 s, Nat.mul_assoc]; omega] at this

/-- The window maximum at the first lane of a group is the largest magnitude of the group. -/
theorem windowMax_apply (x : FVec Ideal S32x128 .bf16) (r : Fin 32) (l : Fin 128) :
    windowMax x (ValueIdx.ix2 r ⟨32 * (l.val / 32), by omega⟩) = gmax fun i => x (ValueIdx.ix2 r ⟨32 * (l.val / 32) + i.val, by omega⟩) := by
  unfold windowMax
  refine eq_of_forall_ge_iff fun b => ?_
  rw [gmax_le]
  have h0 : ∀ n, at_ (absf x) r n ≤ b ↔ ∀ i < 1, (fun n => at_ (absf x) r n) (n + 2 * 16 * i) ≤ b := fun n =>
    ⟨fun h i hi => by obtain rfl : i = 0 := by omega
                      exact h, fun h => h 0 (by omega)⟩
  have h1 := roll_le 112#32 16 1 (by omega) rfl (by omega) _ _ r b h0
  have h2 := roll_le 120#32 8 2 (by omega) rfl (by omega) _ _ r b h1
  have h3 := roll_le 124#32 4 4 (by omega) rfl (by omega) _ _ r b h2
  have h4 := roll_le 126#32 2 8 (by omega) rfl (by omega) _ _ r b h3
  have h5 := roll_le 127#32 1 16 (by omega) rfl (by omega) _ _ r b h4 (32 * (l.val / 32))
  have key : ∀ i (hi : i < 32), at_ (absf x) r (32 * (l.val / 32) + 1 * i)
      = max (x (ValueIdx.ix2 r ⟨32 * (l.val / 32) + i, by omega⟩)) (-(x (ValueIdx.ix2 r ⟨32 * (l.val / 32) + i, by omega⟩))) := fun i hi => by
    unfold at_
    have e : (⟨(32 * (l.val / 32) + 1 * i) % 128, Nat.mod_lt _ (by omega)⟩ : Fin 128) = ⟨32 * (l.val / 32) + i, by omega⟩ := Fin.ext (by
      show (32 * (l.val / 32) + 1 * i) % 128 = 32 * (l.val / 32) + i; omega)
    rw [e]; rfl
  refine Iff.trans (Eq.to_iff (congrArg (· ≤ b) ?_)) (h5.trans ⟨fun h i => ?_, fun h i hi => ?_⟩)
  · unfold at_
    congr 2
    exact Fin.ext (by show 32 * (l.val / 32) = (32 * (l.val / 32)) % 128; omega)
  · have := h i.val (by omega)
    rwa [key _ i.isLt] at this
  · rw [key i (by omega)]
    exact h ⟨i, by omega⟩

/-- The scale of a chunk at a lane is the scale of the lane's group. -/
theorem scaleChunk_apply (x : FVec Ideal S32x128 .bf16) (r : Fin 32) (l : Fin 128) :
    scaleChunk x (ValueIdx.ix2 r l) = scale (gmax fun i => x (ValueIdx.ix2 r ⟨32 * (l.val / 32) + i.val, by omega⟩)) := by
  unfold scaleChunk
  rw [gather_apply (idx := wrap (andi lane (broadcast S32x128 4294967264#32))) (r := r) (l := l) (k := ⟨32 * (l.val / 32), by omega⟩) (h := by
    rw [wrap_apply]
    show (wrapWord (IntOp.andi (lane (ValueIdx.ix2 r l)) 4294967264#32)).toNat % 128 = _
    rw [lane_apply]; exact group_word l)]
  show scaleOf (windowMax x) _ = _
  rw [scaleOf_apply, windowMax_apply]

/-- The scales of a trip's first `n` chunks, at a lane one of them fills. -/
theorem packed_apply (x : Vec Ideal S1024x3584 .bf16) (k : Fin k0_t1_loop.trips) (r : Fin 32) (l : Fin 128) (n : ℕ) (hn : n ≤ 28) (hl : l.val / 4 < n) :
    packed x k n hn (ValueIdx.ix2 r l) = scaleChunk (chunk x k (l.val / 4) (by omega)) (ValueIdx.ix2 r ⟨32 * (l.val % 4), by omega⟩) := by
  induction n with
  | zero => omega
  | succ n ih =>
    rw [packed]
    unfold packStep
    rw [select_apply]
    have c : cmpi .eq (shrsi lane (broadcast S32x128 2#32)) (broadcast S32x128 (BitVec.ofNat 32 n)) (ValueIdx.ix2 r l) = if l.val / 4 = n then 1#1 else 0#1 := by
      show IntOp.cmpi .eq (IntOp.shrsi .vector (lane (ValueIdx.ix2 r l)) 2#32) (BitVec.ofNat 32 n) = _
      rw [lane_apply]
      exact chunk_word l ⟨n, hn⟩
    rw [c]
    by_cases h : l.val / 4 = n
    · rw [if_pos h]
      subst h
      refine (if_pos rfl).trans (gather_apply _ _ r l ⟨32 * (l.val % 4), by omega⟩ ?_)
      rw [wrap_apply]
      show (wrapWord (IntOp.muli (IntOp.andi (lane (ValueIdx.ix2 r l)) 3#32) 32#32)).toNat % 128 = _
      rw [lane_apply]; exact quarter_word l
    · rw [if_neg h]
      exact (if_neg (by decide)).trans (ih _ (by omega))

end Cert.KernelIdeal.Hand

end
-- ==== Proof.Kern.Rows.lean ====
/- What the kernel's quantiser leaves of a block of rows, element by element, on the extended reals. -/
module

public import proofs.«01_k».proof.Proof.Kern.Lanes
public import Idealize.ShloMosaic.Lib.Pipeline.ValueKit.Tiles

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Spec

/-- A row of a block. -/
abbrev rowOf (x : Vec Ideal S1024x3584 .bf16) (R : Fin 1024) : Fin 3584 → EReal := fun d => x (ValueIdx.ix2 R d)

theorem trip_lt (k : Fin k0_t1_loop.trips) : k.val < 32 := Nat.lt_of_lt_of_eq k.isLt trips_eq

theorem chunk_apply (x : Vec Ideal S1024x3584 .bf16) (k : Fin k0_t1_loop.trips) (n : ℕ) (hn : n < 28) (r : Fin 32) (l : Fin 128)
    (R : Fin 1024) (d : Fin 3584) (hR : R.val = 32 * k.val + r.val) (hd : d.val = 128 * n + l.val) :
    chunk x k n hn (ValueIdx.ix2 r l) = rowOf x R d := by
  unfold chunk
  refine (congrFun (shapeCast_self _ _) _).trans ?_
  refine View.ld_unit_apply_of x _ _ _ _ (ValueIdx.ix2 R d) fun a => ?_
  match a with
  | ⟨0, _⟩ => exact hR.trans (congrArg (· + r.val) (off_row k).symm)
  | ⟨1, _⟩ => exact hd

theorem chunk_scale (x : Vec Ideal S1024x3584 .bf16) (k : Fin k0_t1_loop.trips) (n : ℕ) (hn : n < 28) (r : Fin 32) (l : Fin 128)
    (R : Fin 1024) (g : Fin 112) (hR : R.val = 32 * k.val + r.val) (hg : g.val = 4 * n + l.val / 32) :
    scaleChunk (chunk x k n hn) (ValueIdx.ix2 r l) = scale (gmax (grp (rowOf x R) g)) := by
  rw [scaleChunk_apply]
  refine congrArg (fun f => scale (gmax f)) (funext fun i => ?_)
  exact chunk_apply x k n hn r ⟨32 * (l.val / 32) + i.val, by omega⟩ R ⟨32 * g.val + i.val, by omega⟩ hR
    (by show 32 * g.val + i.val = 128 * n + (32 * (l.val / 32) + i.val); omega)

theorem codeChunk_apply (x : FVec Ideal S32x128 .bf16) (i : S32x128.Idx) : codeChunk x i
    = min (Ideal.ofBits .f32 0x43E00000#32) (max (Ideal.ofBits .f32 0xC3E00000#32) (x i * Ideal.div 1 (scaleChunk x i))) := by
  rw [← one32]; rfl

theorem xbChunk_apply (x : FVec Ideal S32x128 .bf16) (i : S32x128.Idx) : xbChunk x i = codeChunk x i * scaleChunk x i := by
  unfold xbChunk
  rw [shapeCast_self]; rfl

theorem codeChunk_row (x : Vec Ideal S1024x3584 .bf16) (k : Fin k0_t1_loop.trips) (n : ℕ) (hn : n < 28) (r : Fin 32) (l : Fin 128)
    (R : Fin 1024) (d : Fin 3584) (hR : R.val = 32 * k.val + r.val) (hd : d.val = 128 * n + l.val) :
    codeChunk (chunk x k n hn) (ValueIdx.ix2 r l) = rowCode (rowOf x R) d := by
  rw [codeChunk_apply, chunk_apply x k n hn r l R d hR hd,
    chunk_scale x k n hn r l R (groupOf d) hR (by show d.val / 32 = _; omega)]
  rfl

theorem xbChunk_row (x : Vec Ideal S1024x3584 .bf16) (k : Fin k0_t1_loop.trips) (n : ℕ) (hn : n < 28) (r : Fin 32) (l : Fin 128)
    (R : Fin 1024) (d : Fin 3584) (hR : R.val = 32 * k.val + r.val) (hd : d.val = 128 * n + l.val) :
    xbChunk (chunk x k n hn) (ValueIdx.ix2 r l) = rowXb (rowOf x R) d := by
  rw [xbChunk_apply, codeChunk_row x k n hn r l R d hR hd,
    chunk_scale x k n hn r l R (groupOf d) hR (by show d.val / 32 = _; omega)]
  rfl

/-- The codes of a block of rows. -/
theorem codeB_apply (x : Vec Ideal S1024x3584 .bf16) (R : Fin 1024) (d : Fin 3584) : codeB x (ValueIdx.ix2 R d) = rowCode (rowOf x R) d :=
  codeChunk_row x ⟨R.val / 32, by rw [trips_eq]; omega⟩ (d.val / 128) (by omega) ⟨R.val % 32, by omega⟩ ⟨d.val % 128, by omega⟩ R d
    (by show R.val = 32 * (R.val / 32) + R.val % 32; omega) (by show d.val = 128 * (d.val / 128) + d.val % 128; omega)

/-- The codes of a block of rows times their scales. -/
theorem xbB_apply (x : Vec Ideal S1024x3584 .bf16) (R : Fin 1024) (d : Fin 3584) : xbB x (ValueIdx.ix2 R d) = rowXb (rowOf x R) d :=
  xbChunk_row x ⟨R.val / 32, by rw [trips_eq]; omega⟩ (d.val / 128) (by omega) ⟨R.val % 32, by omega⟩ ⟨d.val % 128, by omega⟩ R d
    (by show R.val = 32 * (R.val / 32) + R.val % 32; omega) (by show d.val = 128 * (d.val / 128) + d.val % 128; omega)

/-- The scales of a block of rows. -/
theorem scaleB_apply (x : Vec Ideal S1024x3584 .bf16) (R : Fin 1024) (g : Fin 112) : scaleB x (ValueIdx.ix2 R g) = rowScale (rowOf x R) g := by
  have hk : R.val / 32 < k0_t1_loop.trips := by rw [trips_eq]; omega
  rw [scaleB_at x ⟨R.val / 32, hk⟩ (ValueIdx.ix2 ⟨R.val % 32, by omega⟩ g) (ValueIdx.ix2 R g)
    (by show R.val = 32 * (R.val / 32) + R.val % 32; omega) rfl]
  rw [extractStridedSlice_apply ![0, 0] _ _ _ (ValueIdx.ix2 (⟨R.val % 32, by omega⟩ : Fin 32) (⟨g.val, by omega⟩ : Fin 128)) (fun a => by
    match a with
    | ⟨0, _⟩ => exact (Nat.zero_add _).symm
    | ⟨1, _⟩ => exact (Nat.zero_add _).symm)]
  rw [packed_apply x _ _ _ _ _ (by show g.val / 4 < 28; omega),
    chunk_scale x _ _ _ _ _ R g (by show R.val = 32 * (R.val / 32) + R.val % 32; omega)
      (by show g.val = 4 * (g.val / 4) + 32 * (g.val % 4) / 32; omega)]
  rfl

end Cert.KernelIdeal.Hand

end
-- ==== Proof.Kern.Weights.lean ====
/- What the kernel's decoder leaves of a block of weights, element by element, on the extended reals. -/
module

public import proofs.«01_k».proof.Proof.Kern.Rows
public import Idealize.ShloMosaic.Lib.BitcastFour
public import Mathlib.Tactic.IntervalCases

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Spec

/-- Words read at eight bits: element `r` of a column is byte `r % 4` of word `r / 4`. -/
theorem bitcast_32_8_ix2 {R r n : ℕ} (x : (⟨2, ![r, n]⟩ : Shape).Idx → BitVec 32) (h : (⟨2, ![r, n]⟩ : Shape).Bitcasts 32 ⟨2, ![R, n]⟩ 8)
    (p : Fin R) (a : Fin r) (l : Fin n) (k : ℕ) (hk : k < 4) (hp : p.val = 4 * a.val + k) :
    bitcast ⟨2, ![R, n]⟩ 8 x h (ValueIdx.ix2 p l) = (x (ValueIdx.ix2 a l)).extractLsb' (8 * k) 8 := by
  apply BitVec.eq_of_getLsbD_eq
  intro q hq
  rw [bitcast_getLsbD x h _ q hq (by decide), BitVec.getLsbD_extractLsb']
  have hrow : Shape.row (⟨2, ![R, n]⟩ : Shape) (ValueIdx.ix2 p l) = p.val := rfl
  have e1 : (Shape.row (⟨2, ![R, n]⟩ : Shape) (ValueIdx.ix2 p l) * 8 + q) % 32 = 8 * k + q := by rw [hrow]; omega
  have e2 : (Shape.row (⟨2, ![R, n]⟩ : Shape) (ValueIdx.ix2 p l) * 8 + q) / 32 = a.val := by rw [hrow]; omega
  rw [e1]
  simp only [hq, decide_true, Bool.true_and]
  congr 2
  funext c
  match c with
  | ⟨0, _⟩ => exact Fin.ext ((h.srcIdx_row _ _ _ ⟨0, Nat.zero_lt_two⟩ rfl).trans e2)
  | ⟨1, _⟩ => exact Fin.ext (h.srcIdx_other _ _ _ ⟨1, Nat.one_lt_two⟩ (by show ¬ 1 + 2 = 2; omega))

/-- Words read at sixteen bits. -/
theorem bitcast_32_16_ix2 {R r n : ℕ} (x : (⟨2, ![r, n]⟩ : Shape).Idx → BitVec 32) (h : (⟨2, ![r, n]⟩ : Shape).Bitcasts 32 ⟨2, ![R, n]⟩ 16)
    (p : Fin R) (a : Fin r) (l : Fin n) (k : ℕ) (hk : k < 2) (hp : p.val = 2 * a.val + k) :
    bitcast ⟨2, ![R, n]⟩ 16 x h (ValueIdx.ix2 p l) = (x (ValueIdx.ix2 a l)).extractLsb' (16 * k) 16 := by
  apply BitVec.eq_of_getLsbD_eq
  intro q hq
  rw [bitcast_getLsbD x h _ q hq (by decide), BitVec.getLsbD_extractLsb']
  have hrow : Shape.row (⟨2, ![R, n]⟩ : Shape) (ValueIdx.ix2 p l) = p.val := rfl
  have e1 : (Shape.row (⟨2, ![R, n]⟩ : Shape) (ValueIdx.ix2 p l) * 16 + q) % 32 = 16 * k + q := by rw [hrow]; omega
  have e2 : (Shape.row (⟨2, ![R, n]⟩ : Shape) (ValueIdx.ix2 p l) * 16 + q) / 32 = a.val := by rw [hrow]; omega
  rw [e1]
  simp only [hq, decide_true, Bool.true_and]
  congr 2
  funext c
  match c with
  | ⟨0, _⟩ => exact Fin.ext ((h.srcIdx_row _ _ _ ⟨0, Nat.zero_lt_two⟩ rfl).trans e2)
  | ⟨1, _⟩ => exact Fin.ext (h.srcIdx_other _ _ _ ⟨1, Nat.one_lt_two⟩ (by show ¬ 1 + 2 = 2; omega))

/-- The float8 pattern of a nibble: its sign, exponent and mantissa bits put where float8 keeps them. -/
def pat (n : ℕ) : BitVec 8 := if n < 8 then BitVec.ofNat 8 (4 * n) else BitVec.ofNat 8 (128 + 4 * (n - 8))

/-- The words' arithmetic of the two decoders. -/
def loWord (w : BitVec 32) : BitVec 32 :=
  IntOp.ori (IntOp.shli .vector (IntOp.andi w 134744072#32) 4#32) (IntOp.shli .vector (IntOp.andi w 117901063#32) 2#32)
def hiWord (w : BitVec 32) : BitVec 32 :=
  IntOp.ori (IntOp.andi w 2155905152#32) (IntOp.shrui .vector (IntOp.andi w 1886417008#32) 2#32)

def loByte (b : BitVec 8) : BitVec 8 := ((b &&& 8#8) <<< 4) ||| ((b &&& 7#8) <<< 2)
def hiByte (b : BitVec 8) : BitVec 8 := (b &&& 128#8) ||| ((b &&& 112#8) >>> 2)

theorem loByte_eq : ∀ b : BitVec 8, loByte b = pat (nibLo b) := by
  have : ∀ i : Fin 256, loByte (BitVec.ofNat 8 i.val) = pat (nibLo (BitVec.ofNat 8 i.val)) := by decide +kernel
  intro b
  have h := this ⟨b.toNat, b.isLt⟩
  simpa using h

theorem hiByte_eq : ∀ b : BitVec 8, hiByte b = pat (nibHi b) := by
  have : ∀ i : Fin 256, hiByte (BitVec.ofNat 8 i.val) = pat (nibHi (BitVec.ofNat 8 i.val)) := by decide +kernel
  intro b
  have h := this ⟨b.toNat, b.isLt⟩
  simpa using h

theorem loWord_byte (w : BitVec 32) (k : ℕ) (hk : k < 4) : (loWord w).extractLsb' (8 * k) 8 = loByte (w.extractLsb' (8 * k) 8) := by
  have e : loWord w = ((w &&& 134744072#32) <<< 4) ||| ((w &&& 117901063#32) <<< 2) := rfl
  rw [e]
  unfold loByte
  apply BitVec.eq_of_getLsbD_eq
  intro i hi
  interval_cases k <;> interval_cases i <;> simp [BitVec.getLsbD_extractLsb']

theorem hiWord_byte (w : BitVec 32) (k : ℕ) (hk : k < 4) : (hiWord w).extractLsb' (8 * k) 8 = hiByte (w.extractLsb' (8 * k) 8) := by
  have e : hiWord w = (w &&& 2155905152#32) ||| ((w &&& 1886417008#32) >>> 2) := rfl
  rw [e]
  unfold hiByte
  apply BitVec.eq_of_getLsbD_eq
  intro i hi
  interval_cases k <;> interval_cases i <;> simp [BitVec.getLsbD_extractLsb']

theorem word_byte (p : Vec Ideal S32x256 .i8) (a : Fin 8) (c : Fin 256) (k : ℕ) (hk : k < 4) :
    (bitcast S8x256 32 p bitcasts_S32x256_w8_S8x256_w32 (ValueIdx.ix2 a c)).extractLsb' (8 * k) 8 = p (ValueIdx.ix2 ⟨4 * a.val + k, by omega⟩ c) := by
  apply BitVec.eq_of_getLsbD_eq
  intro q hq
  rw [BitVec.getLsbD_extractLsb']
  simp only [hq, decide_true, Bool.true_and]
  rw [bitcast_8_32_getLsbD_ix2 p _ a c (8 * k + q) (by omega) ⟨4 * a.val + k, by omega⟩ (by show 4 * a.val + k = 4 * a.val + (8 * k + q) / 8; omega),
    show (8 * k + q) % 8 = q by omega]

theorem bitsLo_byte (p : Vec Ideal S32x256 .i8) (a : Fin 8) (c : Fin 256) (k : ℕ) (hk : k < 4) :
    (bitsLo p (ValueIdx.ix2 a c)).extractLsb' (8 * k) 8 = pat (nibLo (p (ValueIdx.ix2 ⟨4 * a.val + k, by omega⟩ c))) := by
  have e : bitsLo p (ValueIdx.ix2 a c) = loWord (bitcast S8x256 32 p bitcasts_S32x256_w8_S8x256_w32 (ValueIdx.ix2 a c)) := rfl
  rw [e, loWord_byte _ k hk, word_byte p a c k hk, loByte_eq]

theorem bitsHi_byte (p : Vec Ideal S32x256 .i8) (a : Fin 8) (c : Fin 256) (k : ℕ) (hk : k < 4) :
    (bitsHi p (ValueIdx.ix2 a c)).extractLsb' (8 * k) 8 = pat (nibHi (p (ValueIdx.ix2 ⟨4 * a.val + k, by omega⟩ c))) := by
  have e : bitsHi p (ValueIdx.ix2 a c) = hiWord (bitcast S8x256 32 p bitcasts_S32x256_w8_S8x256_w32 (ValueIdx.ix2 a c)) := rfl
  rw [e, hiWord_byte _ k hk, word_byte p a c k hk, hiByte_eq]

/-- A float8 pattern of a nibble, times 64, is the nibble's value. -/
theorem pat_value (n : ℕ) (hn : n < 16) : Ideal.ofBits .fp8e4m3 (pat n) * Ideal.ofBits .bf16 0x4280#16 = dec n := by
  have e64 : Ideal.ofBits .bf16 0x4280#16 = ((64 : ℝ) : EReal) := by
    simp [Ideal.ofBits, Ideal.ieee, -EReal.coe_mul]; norm_num
  rw [e64]
  interval_cases n <;> simp [pat, Ideal.ofBits, Ideal.e4m3fn, dec, mag, -EReal.coe_mul, ← EReal.coe_mul] <;> norm_num

/-- A bfloat16 pattern with the scale byte as its exponent. -/
theorem scale_value (b : BitVec 8) : Ideal.ofBits .bf16 (b.setWidth 16 <<< 7) = e8 b := by
  have key : ∀ i : Fin 256, (((BitVec.ofNat 8 i.val).setWidth 16 <<< 7).extractLsb' 15 1 = 0#1
      ∧ (((BitVec.ofNat 8 i.val).setWidth 16 <<< 7).extractLsb' 7 8) = BitVec.ofNat 8 i.val
      ∧ (((BitVec.ofNat 8 i.val).setWidth 16 <<< 7).extractLsb' 0 7).toNat = 0) := by decide +kernel
  have h := key ⟨b.toNat, b.isLt⟩
  simp only [BitVec.ofNat_toNat, BitVec.setWidth_eq] at h
  obtain ⟨h1, h2, h3⟩ := h
  show Ideal.ieee 8 7 _ = _
  unfold Ideal.ieee e8
  have h1' : (b.setWidth 16 <<< 7).extractLsb' (8 + 7) 1 = 0#1 := h1
  simp only [h1', h2, h3]
  by_cases h0 : b = 0#8
  · subst h0
    simp
  · by_cases h255 : b = 255#8
    · subst h255
      simp
    · have n0 : b.toNat ≠ 0 := fun h => h0 (BitVec.eq_of_toNat_eq h)
      have n255 : ¬ b.toNat = 2 ^ 8 - 1 := fun h => h255 (BitVec.eq_of_toNat_eq h)
      rw [if_neg n255, if_neg n0, if_neg h0, if_neg h255]
      unfold pw
      congr 1
      rw [show ((b.toNat : ℤ) - (2 ^ (8 - 1) - 1) - ((7 : ℕ) : ℤ) : ℤ) = (b.toNat - 127) - 7 by norm_num, zpow_sub₀ (by norm_num : (2 : ℝ) ≠ 0) _ 7]
      norm_num
      ring

theorem scaleTile_apply (ws : Vec Ideal S112x256 .i8) (g : ℕ) (hg : g < 112) (r : Fin 32) (c : Fin 256) :
    scaleTile ws g hg (ValueIdx.ix2 r c) = e8 (ws (ValueIdx.ix2 ⟨g, hg⟩ c)) := by
  unfold scaleTile
  show Ideal.ofBits .bf16 (bitcast S32x256 16 _ bitcasts_S16x256_w32_S32x256_w16 (ValueIdx.ix2 r c)) = _
  rw [bitcast_32_16_ix2 _ bitcasts_S16x256_w32_S32x256_w16 r ⟨r.val / 2, by omega⟩ c (r.val % 2) (by omega) (by show r.val = 2 * (r.val / 2) + r.val % 2; omega)]
  rw [broadcastTo_apply _ _ _ (ValueIdx.ix2 (0 : Fin 1) c) (fun a => by
    match a with
    | ⟨0, _⟩ => rfl
    | ⟨1, _⟩ => rfl)]
  rw [shapeCast_self, extractStridedSlice_apply _ _ _ _ (ValueIdx.ix2 ⟨g, hg⟩ c) (fun a => by
    match a with
    | ⟨0, _⟩ => rfl
    | ⟨1, _⟩ => exact (Nat.zero_add _).symm)]
  rw [← scale_value]
  congr 1
  have e : scaleWords ws (ValueIdx.ix2 ⟨g, hg⟩ c) = ((ws (ValueIdx.ix2 ⟨g, hg⟩ c)).setWidth 32 <<< 7) ||| ((ws (ValueIdx.ix2 ⟨g, hg⟩ c)).setWidth 32 <<< 23) := rfl
  rw [e]
  have key : ∀ i : Fin 256, ∀ k : Fin 2, (((BitVec.ofNat 8 i.val).setWidth 32 <<< 7) ||| ((BitVec.ofNat 8 i.val).setWidth 32 <<< 23)).extractLsb' (16 * k.val) 16
      = (BitVec.ofNat 8 i.val).setWidth 16 <<< 7 := by decide +kernel
  have h := key ⟨(ws (ValueIdx.ix2 ⟨g, hg⟩ c)).toNat, (ws (ValueIdx.ix2 ⟨g, hg⟩ c)).isLt⟩ ⟨r.val % 2, by omega⟩
  simpa using h

/-- A dequantised tile, for a decoder that puts the pattern of nibble `nib` of every byte in its place. -/
theorem dqTile_apply (bits : IVec S8x256 32) (p : Vec Ideal S32x256 .i8) (nib : BitVec 8 → ℕ) (hn : ∀ b, nib b < 16)
    (hb : ∀ (a : Fin 8) (c : Fin 256) (k : ℕ) (hk : k < 4), (bits (ValueIdx.ix2 a c)).extractLsb' (8 * k) 8 = pat (nib (p (ValueIdx.ix2 ⟨4 * a.val + k, by omega⟩ c))))
    (ws : Vec Ideal S112x256 .i8) (g : ℕ) (hg : g < 112) (r : Fin 32) (c : Fin 256) :
    dqTile bits ws g hg (ValueIdx.ix2 r c) = dec (nib (p (ValueIdx.ix2 r c))) * e8 (ws (ValueIdx.ix2 ⟨g, hg⟩ c)) := by
  unfold dqTile
  refine (congrFun (shapeCast_self _ _) _).trans ?_
  show Ideal.ofBits .fp8e4m3 (bitcast S32x256 8 bits bitcasts_S8x256_w32_S32x256_w8 (ValueIdx.ix2 r c)) * Ideal.ofBits .bf16 0x4280#16
    * scaleTile ws g hg (ValueIdx.ix2 r c) = _
  have e : (⟨4 * (r.val / 4) + r.val % 4, by omega⟩ : Fin 32) = r := Fin.ext (by show 4 * (r.val / 4) + r.val % 4 = r.val; omega)
  have h := hb ⟨r.val / 4, by omega⟩ c (r.val % 4) (by omega)
  rw [e] at h
  rw [scaleTile_apply, bitcast_32_8_ix2 bits _ r ⟨r.val / 4, by omega⟩ c (r.val % 4) (by omega) (by show r.val = 4 * (r.val / 4) + r.val % 4; omega), h, pat_value _ (hn _)]

theorem mem_pieces (bits : Vec Ideal S32x256 .i8 → IVec S8x256 32) (wp : Vec Ideal S3584x256 .i8) (ws : Vec Ideal S112x256 .i8) (p) (n : ℕ) (hn : n ≤ 112)
    (h : p ∈ pieces bits wp ws n hn) : ∃ m hm, p = ⟨Rect.unit ![32 * m, 0] S32x256.size (inb_rows m hm),
      dqTile (bits (View.ld wp (Rect.unit ![32 * m, 0] S32x256.size (inb_rows m hm)))) ws m hm⟩ := by
  induction n with
  | zero => simp [pieces] at h
  | succ n ih =>
    rw [pieces] at h
    rcases List.mem_cons.mp h with h | h
    · exact ⟨n, hn, h⟩
    · exact ih _ h

theorem mem_pieces_of (bits : Vec Ideal S32x256 .i8 → IVec S8x256 32) (wp : Vec Ideal S3584x256 .i8) (ws : Vec Ideal S112x256 .i8) (m : ℕ) (hm : m < 112) (n : ℕ) (hn : n ≤ 112)
    (h : m < n) : (⟨Rect.unit ![32 * m, 0] S32x256.size (inb_rows m hm),
      dqTile (bits (View.ld wp (Rect.unit ![32 * m, 0] S32x256.size (inb_rows m hm)))) ws m hm⟩ : View.Piece (Elt Ideal) S3584x256 .bf16) ∈ pieces bits wp ws n hn := by
  induction n with
  | zero => omega
  | succ n ih =>
    rw [pieces]
    rcases Nat.lt_succ_iff_lt_or_eq.mp h with h | h
    · exact List.mem_cons_of_mem _ (ih _ h)
    · subst h; exact List.mem_cons_self

theorem canon_pieces (bits : Vec Ideal S32x256 .i8 → IVec S8x256 32) (nib : BitVec 8 → ℕ) (hn : ∀ b, nib b < 16)
    (hb : ∀ (p : Vec Ideal S32x256 .i8) (a : Fin 8) (c : Fin 256) (k : ℕ) (hk : k < 4), (bits p (ValueIdx.ix2 a c)).extractLsb' (8 * k) 8 = pat (nib (p (ValueIdx.ix2 ⟨4 * a.val + k, by omega⟩ c))))
    (wp : Vec Ideal S3584x256 .i8) (ws : Vec Ideal S112x256 .i8) (R : Fin 3584) (c : Fin 256) :
    View.canon (pieces bits wp ws 112 (Nat.le_refl _)) (ValueIdx.ix2 R c) = dec (nib (wp (ValueIdx.ix2 R c))) * e8 (ws (ValueIdx.ix2 (groupOf R) c)) := by
  refine View.canon_apply_of_pieces (Val := Elt Ideal) (e := .bf16) (fun y : S3584x256.Idx => (dec (nib (wp y)) * e8 (ws (ValueIdx.ix2 (groupOf (y 0)) (y 1))) : EReal)) _ (fun p hp z => ?_) (ValueIdx.ix2 R c) ?_
  · obtain ⟨m, hm, rfl⟩ := mem_pieces _ _ _ _ _ _ hp
    have l0 : (z 0).val < 32 := ValueIdx.idx2_lt0 z
    have e0 := ValueKit.rect_emb_unit_val (s := S3584x256) ![32 * m, 0] S32x256.size (inb_rows m hm) z 0
    have e1 := ValueKit.rect_emb_unit_val (s := S3584x256) ![32 * m, 0] S32x256.size (inb_rows m hm) z 1
    obtain ⟨z0, z1, rfl⟩ : ∃ (z0 : Fin 32) (z1 : Fin 256), z = ValueIdx.ix2 z0 z1 := ⟨z 0, z 1, ValueIdx.eq_ix2 z⟩
    have ey : (Rect.unit (s := S3584x256) ![32 * m, 0] S32x256.size (inb_rows m hm)).emb (ValueIdx.ix2 z0 z1)
        = ValueIdx.ix2 ⟨32 * m + z0.val, by omega⟩ z1 := by
      funext a
      match a with
      | ⟨0, _⟩ => exact Fin.ext e0
      | ⟨1, _⟩ => exact Fin.ext (e1.trans (Nat.zero_add _))
    refine (dqTile_apply _ (View.ld wp (Rect.unit ![32 * m, 0] S32x256.size (inb_rows m hm))) nib hn (hb _) ws m hm z0 z1).trans ?_
    refine Eq.trans ?_ (congrArg (fun y : S3584x256.Idx => (dec (nib (wp y)) * e8 (ws (ValueIdx.ix2 (groupOf (y 0)) (y 1))) : EReal)) ey.symm)
    have ew : View.ld wp (Rect.unit (s := S3584x256) ![32 * m, 0] S32x256.size (inb_rows m hm)) (ValueIdx.ix2 z0 z1) = wp (ValueIdx.ix2 ⟨32 * m + z0.val, by omega⟩ z1) := congrArg wp ey
    have eg : (⟨m, hm⟩ : Fin 112) = groupOf ⟨32 * m + z0.val, by omega⟩ := Fin.ext (by show m = (32 * m + z0.val) / 32; omega)
    rw [ew, eg]
  · refine ⟨_, mem_pieces_of bits wp ws (R.val / 32) (by omega) 112 (Nat.le_refl _) (by omega), ?_⟩
    rw [Rect.mem_set_unit]
    intro a
    match a with
    | ⟨0, _⟩ => show 32 * (R.val / 32) ≤ R.val ∧ R.val < 32 * (R.val / 32) + 32; omega
    | ⟨1, _⟩ => show 0 ≤ c.val ∧ c.val < 0 + 256; omega

/-- The dequantised low nibbles of a block. -/
theorem wLo_apply (wp : Vec Ideal S3584x256 .i8) (ws : Vec Ideal S112x256 .i8) (R : Fin 3584) (c : Fin 256) :
    wLo wp ws (ValueIdx.ix2 R c) = dec (nibLo (wp (ValueIdx.ix2 R c))) * e8 (ws (ValueIdx.ix2 (groupOf R) c)) :=
  canon_pieces bitsLo nibLo nibLo_lt bitsLo_byte wp ws R c

/-- The dequantised high nibbles of a block. -/
theorem wHi_apply (wp : Vec Ideal S3584x256 .i8) (ws : Vec Ideal S112x256 .i8) (R : Fin 3584) (c : Fin 256) :
    wHi wp ws (ValueIdx.ix2 R c) = dec (nibHi (wp (ValueIdx.ix2 R c))) * e8 (ws (ValueIdx.ix2 (groupOf R) c)) :=
  canon_pieces bitsHi nibHi nibHi_lt bitsHi_byte wp ws R c

end Cert.KernelIdeal.Hand

end
-- ==== Proof.Kern.RunC.lean ====
/- What the kernel body computes at a later column block, low half. -/
module

public import proofs.«01_k».proof.Proof.Kern.Pieces

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2560000 in
/-- The body's triple at a later column block, low half. -/
theorem runC (c : Dev nD) (i : grid0.Coords) (arg3 : Memref sig .tc .vmem S1024x3584 .bf16) (harg3 : arg3.IsWhole) (arg4 : Memref sig .tc .vmem S3584x256 .i8) (harg4 : arg4.IsWhole) (arg5 : Memref sig .tc .vmem S112x256 .i8) (harg5 : arg5.IsWhole) (arg6 : Memref sig .tc .vmem S1024x256 .bf16) (harg6 : arg6.IsWhole) (arg7 : Memref sig .tc .vmem S1024x3584 .fp8e4m3) (harg7 : arg7.IsWhole) (arg8 : Memref sig .tc .vmem S1024x112 .f32) (harg8 : arg8.IsWhole) (arg9 : Memref sig .tc .vmem S1024x3584 .bf16) (harg9 : arg9.IsWhole) (arg10 : Memref sig .tc .vmem S3584x256 .bf16) (harg10 : arg10.IsWhole) (hc0 : ¬cond0_0 i) (hc1 : cond0_1 i) (hc2 : ¬cond0_2 i)
    (x0 : Vec F S1024x3584 .bf16) (x1 : Vec F S3584x256 .i8) (x2 : Vec F S112x256 .i8) (X : Vec F S1024x3584 .bf16) (Y : Vec F S1024x3584 .fp8e4m3) (Z : Vec F S1024x112 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare Y ∗ owns (c : Thread nD τ) arg8 fullShare Z ∗ owns (c : Thread nD τ) arg9 fullShare X ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare (k0_pay6 X (wLo x1 x2)) ∗ owns (c : Thread nD τ) arg7 fullShare Y ∗ owns (c : Thread nD τ) arg8 fullShare Z ∗ owns (c : Thread nD τ) arg9 fullShare X ∗ (∃ d, owns (c : Thread nD τ) arg10 fullShare d)) -∗ K ⟨⟩))
          ⊢ wp frame (wpE (defs₀ (F := F)) Variants.none c none) E (cc0_mx_matmul i arg3 harg3 arg4 harg4 arg5 harg5 arg6 harg6 arg7 harg7 arg8 harg8 arg9 harg9 arg10 harg10) K := by
    intro E K
    simp only [cc0_mx_matmul_eq_skeleton]; unfold cc0_mx_matmul_skel
    simp only [k0_part136_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%ds1, %fs1, -, HS1⟩, Hk⟩
    obtain rfl := harg3.eq_unread hf0; obtain rfl := harg4.eq_unread hf1; obtain rfl := harg5.eq_unread hf2
    sl_exec (disch := first | sl_exact hc0 | sl_exact hc1 | sl_exact hc2)
    sl_step
    have hL : runC.sl.HS1_112 c arg4 harg4 arg5 harg5 x1 x2
        = pieces bitsLo (arg4.view.read (Elt F) (harg4.unread x1)) (View.ld (arg5.view.read (Elt F) (harg5.unread x2)) (Rect.unit ![0, 0] S112x256.size inb_S112x256_S112x256_0_0)) 112 (Nat.le_refl _) := rfl
    have h2 : View.ld x2 (Rect.unit ![0, 0] S112x256.size inb_S112x256_S112x256_0_0) = x2 := View.ld_unit_zero (funext zero2) _ _
    rw [harg4.read_unread, harg5.read_unread, h2] at hL
    have hv : runC.sl.v12 c arg4 harg4 arg5 harg5 arg10 x1 x2 = wLo x1 x2 := by
      unfold runC.sl.v12; rw [hL, View.readCov_eq_canon']
      exact View.ld_unit_zero (S := S3584x256) (off := ![0, 0]) (funext zero2) inb_S3584x256_S3584x256_0_0 _
    rw [hv]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      have h9 : View.readAt (Elt F) arg9.view (Rect.unit ![0, 0] S1024x3584.size inb_S1024x3584_S1024x3584_0_0).toLoadRect fs0 = X := by
        rw [View.readAt_eq_ld, hfs0]; exact View.ld_unit_zero (S := S1024x3584) (off := ![0, 0]) (funext zero2) _ _
      exact (read_store_whole (S := S1024x256) arg6.view f3 (off := ![0, 0]) (funext zero2) inb_S1024x256_S1024x256_0_0 _).trans
        (congrArg (fun z => k0_pay6 z _) h9)
    isplitl [H4]
    · iexists _; isplitr; swap; · iexact H4
      ipureintro; exact hf4
    isplitl [H5]
    · iexists _; isplitr; swap; · iexact H5
      ipureintro; exact hf5
    isplitl [HS0]
    · iexists _; isplitr; swap; · iexact HS0
      ipureintro; exact hfs0
    iexists _, _; isplitr; swap; · iexact HS1
    ipureintro; rfl

end Cert.KernelIdeal.Hand

end
-- ==== Proof.Kern.RunB.lean ====
/- What the kernel body computes at a column block, high half. -/
module

public import proofs.«01_k».proof.Proof.Kern.RunC

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2560000 in
/-- The body's triple at a column block, high half. -/
theorem runB (c : Dev nD) (i : grid0.Coords) (arg3 : Memref sig .tc .vmem S1024x3584 .bf16) (harg3 : arg3.IsWhole) (arg4 : Memref sig .tc .vmem S3584x256 .i8) (harg4 : arg4.IsWhole) (arg5 : Memref sig .tc .vmem S112x256 .i8) (harg5 : arg5.IsWhole) (arg6 : Memref sig .tc .vmem S1024x256 .bf16) (harg6 : arg6.IsWhole) (arg7 : Memref sig .tc .vmem S1024x3584 .fp8e4m3) (harg7 : arg7.IsWhole) (arg8 : Memref sig .tc .vmem S1024x112 .f32) (harg8 : arg8.IsWhole) (arg9 : Memref sig .tc .vmem S1024x3584 .bf16) (harg9 : arg9.IsWhole) (arg10 : Memref sig .tc .vmem S3584x256 .bf16) (harg10 : arg10.IsWhole) (hc0 : ¬cond0_0 i) (hc1 : ¬cond0_1 i) (hc2 : cond0_2 i)
    (x0 : Vec F S1024x3584 .bf16) (x1 : Vec F S3584x256 .i8) (x2 : Vec F S112x256 .i8) (X : Vec F S1024x3584 .bf16) (Y : Vec F S1024x3584 .fp8e4m3) (Z : Vec F S1024x112 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare Y ∗ owns (c : Thread nD τ) arg8 fullShare Z ∗ owns (c : Thread nD τ) arg9 fullShare X ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare (k0_pay6 X (wHi x1 x2)) ∗ owns (c : Thread nD τ) arg7 fullShare Y ∗ owns (c : Thread nD τ) arg8 fullShare Z ∗ owns (c : Thread nD τ) arg9 fullShare X ∗ (∃ d, owns (c : Thread nD τ) arg10 fullShare d)) -∗ K ⟨⟩))
          ⊢ wp frame (wpE (defs₀ (F := F)) Variants.none c none) E (cc0_mx_matmul i arg3 harg3 arg4 harg4 arg5 harg5 arg6 harg6 arg7 harg7 arg8 harg8 arg9 harg9 arg10 harg10) K := by
    intro E K
    simp only [cc0_mx_matmul_eq_skeleton]; unfold cc0_mx_matmul_skel
    simp only [k0_part193_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%ds1, %fs1, -, HS1⟩, Hk⟩
    obtain rfl := harg3.eq_unread hf0; obtain rfl := harg4.eq_unread hf1; obtain rfl := harg5.eq_unread hf2
    sl_exec (disch := first | sl_exact hc0 | sl_exact hc1 | sl_exact hc2)
    sl_step
    have hL : runB.sl.HS1_112 c arg4 harg4 arg5 harg5 x1 x2
        = pieces bitsHi (arg4.view.read (Elt F) (harg4.unread x1)) (View.ld (arg5.view.read (Elt F) (harg5.unread x2)) (Rect.unit ![0, 0] S112x256.size inb_S112x256_S112x256_0_0)) 112 (Nat.le_refl _) := rfl
    have h2 : View.ld x2 (Rect.unit ![0, 0] S112x256.size inb_S112x256_S112x256_0_0) = x2 := View.ld_unit_zero (funext zero2) _ _
    rw [harg4.read_unread, harg5.read_unread, h2] at hL
    have hv : runB.sl.v12 c arg4 harg4 arg5 harg5 arg10 x1 x2 = wHi x1 x2 := by
      unfold runB.sl.v12; rw [hL, View.readCov_eq_canon']
      exact View.ld_unit_zero (S := S3584x256) (off := ![0, 0]) (funext zero2) inb_S3584x256_S3584x256_0_0 _
    rw [hv]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      have h9 : View.readAt (Elt F) arg9.view (Rect.unit ![0, 0] S1024x3584.size inb_S1024x3584_S1024x3584_0_0).toLoadRect fs0 = X := by
        rw [View.readAt_eq_ld, hfs0]; exact View.ld_unit_zero (S := S1024x3584) (off := ![0, 0]) (funext zero2) _ _
      exact (read_store_whole (S := S1024x256) arg6.view f3 (off := ![0, 0]) (funext zero2) inb_S1024x256_S1024x256_0_0 _).trans
        (congrArg (fun z => k0_pay6 z _) h9)
    isplitl [H4]
    · iexists _; isplitr; swap; · iexact H4
      ipureintro; exact hf4
    isplitl [H5]
    · iexists _; isplitr; swap; · iexact H5
      ipureintro; exact hf5
    isplitl [HS0]
    · iexists _; isplitr; swap; · iexact HS0
      ipureintro; exact hfs0
    iexists _, _; isplitr; swap; · iexact HS1
    ipureintro; rfl

end Cert.KernelIdeal.Hand

end
-- ==== Proof.Kern.RunA.lean ====
/- What the kernel body computes at the first column block of a row block: quantise, then the low half. -/
module

public import proofs.«01_k».proof.Proof.Kern.RunB
public import proofs.«01_k».proof.Proof.Kern.Cover

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2560000 in
/-- The body's triple at the first column block of a row block: quantise, then the low half. -/
theorem runA (c : Dev nD) (i : grid0.Coords) (arg3 : Memref sig .tc .vmem S1024x3584 .bf16) (harg3 : arg3.IsWhole) (arg4 : Memref sig .tc .vmem S3584x256 .i8) (harg4 : arg4.IsWhole) (arg5 : Memref sig .tc .vmem S112x256 .i8) (harg5 : arg5.IsWhole) (arg6 : Memref sig .tc .vmem S1024x256 .bf16) (harg6 : arg6.IsWhole) (arg7 : Memref sig .tc .vmem S1024x3584 .fp8e4m3) (harg7 : arg7.IsWhole) (arg8 : Memref sig .tc .vmem S1024x112 .f32) (harg8 : arg8.IsWhole) (arg9 : Memref sig .tc .vmem S1024x3584 .bf16) (harg9 : arg9.IsWhole) (arg10 : Memref sig .tc .vmem S3584x256 .bf16) (harg10 : arg10.IsWhole) (hc0 : cond0_0 i) (hc1 : cond0_1 i) (hc2 : ¬cond0_2 i)
    (x0 : Vec F S1024x3584 .bf16) (x1 : Vec F S3584x256 .i8) (x2 : Vec F S112x256 .i8) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare (k0_pay6 (xbB x0) (wLo x1 x2)) ∗ owns (c : Thread nD τ) arg7 fullShare (codeB x0) ∗ owns (c : Thread nD τ) arg8 fullShare (scaleB x0) ∗ owns (c : Thread nD τ) arg9 fullShare (xbB x0) ∗ (∃ d, owns (c : Thread nD τ) arg10 fullShare d)) -∗ K ⟨⟩))
          ⊢ wp frame (wpE (defs₀ (F := F)) Variants.none c none) E (cc0_mx_matmul i arg3 harg3 arg4 harg4 arg5 harg5 arg6 harg6 arg7 harg7 arg8 harg8 arg9 harg9 arg10 harg10) K := by
    intro E K
    simp only [cc0_mx_matmul_eq_skeleton]; unfold cc0_mx_matmul_skel
    simp only [k0_part136_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | sl_exact hc0 | sl_exact hc1 | sl_exact hc2)
    sl_step
    have hL : runA.sl.HS1_112 c arg4 harg4 arg5 harg5 x1 x2
        = pieces bitsLo (arg4.view.read (Elt F) (harg4.unread x1)) (View.ld (arg5.view.read (Elt F) (harg5.unread x2)) (Rect.unit ![0, 0] S112x256.size inb_S112x256_S112x256_0_0)) 112 (Nat.le_refl _) := rfl
    have h2 : View.ld x2 (Rect.unit ![0, 0] S112x256.size inb_S112x256_S112x256_0_0) = x2 := View.ld_unit_zero (funext zero2) _ _
    rw [harg4.read_unread, harg5.read_unread, h2] at hL
    have hv : runA.sl.v12 c arg4 harg4 arg5 harg5 arg10 x1 x2 = wLo x1 x2 := by
      unfold runA.sl.v12; rw [hL, View.readCov_eq_canon']
      exact View.ld_unit_zero (S := S3584x256) (off := ![0, 0]) (funext zero2) inb_S3584x256_S3584x256_0_0 _
    have hpb := pb_eq Variants.none c none i arg3 harg3 arg4 harg4 arg5 harg5 arg6 harg6 arg7 harg7 arg8 harg8 arg9 harg9 arg10 harg10 hc0 (harg3.unread x0) k0_t1_loop.trips (Nat.le_refl _)
    rw [harg3.read_unread] at hpb
    have e7 : arg7.view.read (Elt F) (arg7.view.writes (Elt F) f4 (allOf (fun k => codeList x0 k) k0_t1_loop.trips)) = codeB x0 :=
      (View.read_writes_eq_canon _ _ _ (tiles_cover _)).trans (tiles_canon _)
    have e8 : arg8.view.read (Elt F) (arg8.view.writes (Elt F) f5 (allOf (fun k => scaleList x0 k) k0_t1_loop.trips)) = scaleB x0 :=
      (View.read_writes_eq_canon _ _ _ (scales_cover x0)).trans (scales_canon x0)
    have e9 : arg9.view.read (Elt F) (arg9.view.writes (Elt F) fs0 (allOf (fun k => xbList x0 k) k0_t1_loop.trips)) = xbB x0 :=
      (View.read_writes_eq_canon _ _ _ (tiles_cover _)).trans (tiles_canon _)
    have hx : runA.sl.v11 c i arg3 harg3 arg4 harg4 arg5 harg5 arg6 harg6 arg7 harg7 arg8 harg8 arg9 harg9 arg10 harg10 hc0 x0 fs0 = xbB x0 := by
      unfold runA.sl.v11
      refine Eq.trans ?_ ((View.ld_unit_zero (S := S1024x3584) (off := ![0, 0]) (funext zero2) inb_S1024x3584_S1024x3584_0_0 _).trans e9)
      exact congrArg (fun L => View.readAt (Elt F) arg9.view (Rect.unit ![0, 0] S1024x3584.size inb_S1024x3584_S1024x3584_0_0).toLoadRect (arg9.view.writes (Elt F) fs0 L)) (congrArg (fun z => z.2.2) hpb)
    rw [hv, hx]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      exact read_store_whole (S := S1024x256) arg6.view f3 (off := ![0, 0]) (funext zero2) inb_S1024x256_S1024x256_0_0 _
    isplitl [H4]
    · iexists _; isplitr; swap; · iexact H4
      ipureintro
      exact (congrArg (fun z => arg7.view.read (Elt F) (arg7.view.writes (Elt F) f4 z.1)) hpb).trans e7
    isplitl [H5]
    · iexists _; isplitr; swap; · iexact H5
      ipureintro
      exact (congrArg (fun z => arg8.view.read (Elt F) (arg8.view.writes (Elt F) f5 z.2.1)) hpb).trans e8
    isplitl [HS0]
    · iexists _; isplitr; swap; · iexact HS0
      ipureintro
      exact (congrArg (fun z => arg9.view.read (Elt F) (arg9.view.writes (Elt F) fs0 z.2.2)) hpb).trans e9
    iexists _, _; isplitr; swap; · iexact HS1
    ipureintro; rfl

end Cert.KernelIdeal.Hand

end
-- ==== Proof.Kern.Data.lean ====
/- The pipeline's proof data with the values the body leaves, the body's obligation and the run. -/
module

public import proofs.«01_k».proof.Proof.Kern.RunA
public import Idealize.ShloMosaic.Lib.Pipeline.TableIdle
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem base_lt (n : ℕ) : 74 * (n / 74) % 888 < cfg0.N := by rw [show cfg0.N = 888 from N_0]; exact Nat.mod_lt _ (by omega)

/-- The first point of the row block of point `n`. -/
def base (n : ℕ) : Fin cfg0.N := ⟨74 * (n / 74) % 888, base_lt n⟩

theorem base_succ (n : ℕ) (h : ¬ (n + 1) % 74 = 0) : base (n + 1) = base n :=
  Fin.ext (by show 74 * ((n + 1) / 74) % 888 = 74 * (n / 74) % 888; rw [show (n + 1) / 74 = n / 74 by omega])

theorem base_self (t : Fin cfg0.N) (h : t.val % 74 = 0) : base t.val = t := by
  have ht : t.val < 888 := Nat.lt_of_lt_of_eq t.isLt N_0
  exact Fin.ext (by show 74 * (t.val / 74) % 888 = t.val; omega)

/-- The rows of x that are in use at point `n`. -/
def xB (c : Dev nD) (n : ℕ) : Vec F S1024x3584 .bf16 := iblk m c 0 (base n)

theorem xB_base (c : Dev nD) (t : Fin cfg0.N) (h : t.val % 74 = 0) : xB m c t.val = iblk m c 0 t := by
  unfold xB; rw [base_self t h]

theorem xB_succ (c : Dev nD) (n : ℕ) (h : ¬ (n + 1) % 74 = 0) : xB m c (n + 1) = xB m c n := by
  unfold xB; rw [base_succ n h]

/-- What the body leaves in the product's buffer at a point. -/
def yAt (c : Dev nD) (t : Fin cfg0.N) : Vec F S1024x256 .bf16 :=
  k0_pay6 (xbB (xB m c t.val)) (if t.val % 2 = 0 then wLo (iblk m c 1 t) (iblk m c 2 t) else wHi (iblk m c 1 t) (iblk m c 2 t))

theorem yAt_a (c : Dev nD) (t : Fin cfg0.N) (h : t.val % 74 = 0) :
    yAt m c t = k0_pay6 (xbB (iblk m c 0 t)) (wLo (iblk m c 1 t) (iblk m c 2 t)) := by
  unfold yAt; rw [if_pos (by omega), xB_base m c t h]
theorem yAt_c (c : Dev nD) (t : Fin cfg0.N) (h : t.val % 2 = 0) :
    yAt m c t = k0_pay6 (xbB (xB m c t.val)) (wLo (iblk m c 1 t) (iblk m c 2 t)) := by
  unfold yAt; rw [if_pos h]
theorem yAt_b (c : Dev nD) (t : Fin cfg0.N) (h : t.val % 2 = 1) :
    yAt m c t = k0_pay6 (xbB (xB m c t.val)) (wHi (iblk m c 1 t) (iblk m c 2 t)) := by
  unfold yAt; rw [if_neg (by omega)]

/-- What the body carries before point `n`: past a row block's first point the scratch holds the quantised rows. -/
def PhiS (c : Dev nD) (n : ℕ) : sProp 𝕄 :=
  iprop(((∃ X, ⌜¬ n % 74 = 0 → X = xbB (xB m c n)⌝ ∗ owns (c : Thread nD τ) scM0_0 fullShare X)
    ∗ (∃ d, owns (c : Thread nD τ) scM0_1 fullShare d)) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yAt m c t
    | ⟨4, _⟩ => codeB (xB m c t.val)
    | ⟨5, _⟩ => scaleB (xB m c t.val)
  Φ j := PhiS m c j.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = yAt m c t := by dsimp only [dats]
theorem after0_4 (c : Dev nD) (t : Fin cfg0.N) : (dats m 0 c).after 4 t = codeB (xB m c t.val) := by dsimp only [dats]
theorem after0_5 (c : Dev nD) (t : Fin cfg0.N) : (dats m 0 c).after 5 t = scaleB (xB m c t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem val_castSucc {N : ℕ} (t : Fin N) : t.castSucc.val = t.val := rfl
theorem val_succ {N : ℕ} (t : Fin N) : t.succ.val = t.val + 1 := rfl

theorem Phi_eq (c : Dev nD) (j : Fin (cfg0.N + 1)) : (dats m 0 c).Φ j = PhiS m c j.val := by dsimp only [dats]
theorem Phi_castSucc (c : Dev nD) (t : Fin cfg0.N) : (dats m 0 c).Φ t.castSucc = PhiS m c t.val :=
  (Phi_eq m c _).trans (congrArg (PhiS m c) (val_castSucc t))
theorem Phi_succ (c : Dev nD) (t : Fin cfg0.N) : (dats m 0 c).Φ t.succ = PhiS m c (t.val + 1) :=
  (Phi_eq m c _).trans (congrArg (PhiS m c) (val_succ t))

/-! ## The codes' and the scales' buffers at the points that do not store them -/

theorem idleAt_4 (t : Fin cfg0.N) (h : ¬ t.val % 74 = 0) : cfg0.idle 4 (cfg0.grid.coords t) = true := by
  have hc : ¬ cond0_0 (grid0.coords t) := fun e => h ((hcond0_0 t).mp e)
  show (!(k0_cond1 (grid0.coords t) == 1#1)) = true
  rw [Bool.not_eq_true', beq_eq_false_iff_ne]; exact hc
theorem idleAt_5 (t : Fin cfg0.N) (h : ¬ t.val % 74 = 0) : cfg0.idle 5 (cfg0.grid.coords t) = true := idleAt_4 t h
theorem busyAt_4 (t : Fin cfg0.N) (h : t.val % 74 = 0) : cfg0.idle 4 (cfg0.grid.coords t) = false := by
  have hc : cond0_0 (grid0.coords t) := (hcond0_0 t).mpr h
  show (!(k0_cond1 (grid0.coords t) == 1#1)) = false
  rw [Bool.not_eq_false', beq_iff_eq]; exact hc
theorem busyAt_5 (t : Fin cfg0.N) (h : t.val % 74 = 0) : cfg0.idle 5 (cfg0.grid.coords t) = false := busyAt_4 t h

theorem fresh_4 : ∀ n, n ≤ cfg0.N → cfg0.fresh 4 n = decide (n % 74 = 0) :=
  cfg0.fresh_tab 4 (fun n => decide (n % 74 = 0)) rfl fun t => by
    by_cases h : t.val % 74 = 0
    · have hf : (cfg0.win 4).flush t = false := by
        rw [← Bool.not_eq_true]; exact fun e => by have := (flush0_4 t).mp e; omega
      rw [hf, busyAt_4 t h, Bool.false_and, Bool.or_false, decide_eq_false_iff_not]; omega
    · rw [idleAt_4 t h, decide_eq_false h, Bool.and_false, Bool.or_false]
      rw [Bool.eq_iff_iff, decide_eq_true_iff, flush0_4 t]; omega

theorem before_4 (c : Dev nD) (t : Fin cfg0.N) (h : ¬ t.val % 74 = 0) (d) : (dats m 0 c).before 4 t d = codeB (xB m c t.val) := by
  have hc : ∀ (n : ℕ) (hn : n < cfg0.N), n ≠ 0 → ¬ n % 74 = 0 → ∀ hn', (dats m 0 c).after 4 ⟨n, hn⟩ = (dats m 0 c).after 4 ⟨n - 1, hn'⟩ := by
    intro n hn h0 h hn'
    rw [after0_4, after0_4]
    obtain ⟨k, rfl⟩ := Nat.exists_eq_succ_of_ne_zero h0
    exact congrArg codeB (xB_succ m c k h)
  have h0 : t.val ≠ 0 := fun e => h (by rw [e])
  rw [(dats m 0 c).before_out_traj 4 rfl (fun _ _ => rfl) (fun t' ht' hi _ => hc t'.val t'.isLt ht' (fun e => by rw [busyAt_4 t' e] at hi; exact Bool.false_ne_true hi) _) t.val t rfl d,
    fresh_4 t.val (Nat.le_of_lt t.isLt), decide_eq_false h, if_neg Bool.false_ne_true, ← hc t.val t.isLt h0 h, after0_4]

theorem idle_4 (c : Dev nD) (t : Fin cfg0.N) (h : ¬ t.val % 74 = 0) :
    owns (c : Thread nD τ) (ms0_4 t) fullShare (codeB (xB m c t.val)) ⊢ ((dats m 0 c).leavesExact 4 t : sProp 𝕄) := by
  by_cases hf : (cfg0.win 4).flush t = true
  · unfold Dat.leavesExact; rw [idleAt_4 t h, hf, after0_4]
  · rw [Bool.not_eq_true] at hf
    rw [(dats m 0 c).leavesExact_idle 4 t (idleAt_4 t h) hf]
    simp only [before_4 m c t h]
    iintro H; iexists codeB (xB m c t.val); iexact H

theorem live_4 (c : Dev nD) (t : Fin cfg0.N) (h : t.val % 74 = 0) :
    (dats m 0 c).leavesExact 4 t = owns (c : Thread nD τ) (ms0_4 t) fullShare (codeB (iblk m c 0 t)) := by
  unfold Dat.leavesExact; rw [busyAt_4 t h, after0_4, xB_base m c t h]

theorem fresh_5 : ∀ n, n ≤ cfg0.N → cfg0.fresh 5 n = decide (n % 74 = 0) :=
  cfg0.fresh_tab 5 (fun n => decide (n % 74 = 0)) rfl fun t => by
    by_cases h : t.val % 74 = 0
    · have hf : (cfg0.win 5).flush t = false := by
        rw [← Bool.not_eq_true]; exact fun e => by have := (flush0_5 t).mp e; omega
      rw [hf, busyAt_5 t h, Bool.false_and, Bool.or_false, decide_eq_false_iff_not]; omega
    · rw [idleAt_5 t h, decide_eq_false h, Bool.and_false, Bool.or_false]
      rw [Bool.eq_iff_iff, decide_eq_true_iff, flush0_5 t]; omega

theorem before_5 (c : Dev nD) (t : Fin cfg0.N) (h : ¬ t.val % 74 = 0) (d) : (dats m 0 c).before 5 t d = scaleB (xB m c t.val) := by
  have hc : ∀ (n : ℕ) (hn : n < cfg0.N), n ≠ 0 → ¬ n % 74 = 0 → ∀ hn', (dats m 0 c).after 5 ⟨n, hn⟩ = (dats m 0 c).after 5 ⟨n - 1, hn'⟩ := by
    intro n hn h0 h hn'
    rw [after0_5, after0_5]
    obtain ⟨k, rfl⟩ := Nat.exists_eq_succ_of_ne_zero h0
    exact congrArg scaleB (xB_succ m c k h)
  have h0 : t.val ≠ 0 := fun e => h (by rw [e])
  rw [(dats m 0 c).before_out_traj 5 rfl (fun _ _ => rfl) (fun t' ht' hi _ => hc t'.val t'.isLt ht' (fun e => by rw [busyAt_5 t' e] at hi; exact Bool.false_ne_true hi) _) t.val t rfl d,
    fresh_5 t.val (Nat.le_of_lt t.isLt), decide_eq_false h, if_neg Bool.false_ne_true, ← hc t.val t.isLt h0 h, after0_5]

theorem idle_5 (c : Dev nD) (t : Fin cfg0.N) (h : ¬ t.val % 74 = 0) :
    owns (c : Thread nD τ) (ms0_5 t) fullShare (scaleB (xB m c t.val)) ⊢ ((dats m 0 c).leavesExact 5 t : sProp 𝕄) := by
  by_cases hf : (cfg0.win 5).flush t = true
  · unfold Dat.leavesExact; rw [idleAt_5 t h, hf, after0_5]
  · rw [Bool.not_eq_true] at hf
    rw [(dats m 0 c).leavesExact_idle 5 t (idleAt_5 t h) hf]
    simp only [before_5 m c t h]
    iintro H; iexists scaleB (xB m c t.val); iexact H

theorem live_5 (c : Dev nD) (t : Fin cfg0.N) (h : t.val % 74 = 0) :
    (dats m 0 c).leavesExact 5 t = owns (c : Thread nD τ) (ms0_5 t) fullShare (scaleB (iblk m c 0 t)) := by
  unfold Dat.leavesExact; rw [busyAt_5 t h, after0_5, xB_base m c t h]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 2400000 in
/-- The body at a point of case A. -/
theorem body_A (c : Dev nD) (t : Fin cfg0.N) (h0 : t.val % 74 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [Phi_succ, Phi_castSucc, show (dats m 0 c).owesAt () t.succ = (dats m 0 c).owesAt () t.castSucc from rfl]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from rfl, after0_3, yAt_a m c t h0]
  rw [live_4 m c t h0, live_5 m c t h0]
  iintro ⟨⟨⟨⟨%X, %hX, HS0⟩, HS1⟩, Hg⟩, Ho, ⟨%d0, H0⟩, ⟨%d1, H1⟩, ⟨%d2, H2⟩, ⟨%d3, H3⟩, ⟨%d4, H4⟩, ⟨%d5, H5⟩⟩
  iapply ((runA c (grid0.coords t) _ _ _ _ _ _ _ _ _ _ _ _ _ _ _ _ ((hcond0_0 t).mpr h0) ((hcond0_1 t).mpr (by omega)) (fun h => by have := (hcond0_2 t).mp h; omega) (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexists _; iexact HS0
  isplitl [HS1]; · iexact HS1
  iintro ⟨H0, H1, H2, H3, H4, H5, HS0, HS1⟩
  isplitl [HS0 HS1 Hg]
  · isplitl [HS0 HS1]
    · isplitl [HS0]
      · iexists _
        isplitr; swap; · iexact HS0
        ipureintro; intro h; rw [xB_succ m c t.val h]; exact congrArg xbB (xB_base m c t h0).symm
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 2400000 in
/-- The body at a point of case B. -/
theorem body_B (c : Dev nD) (t : Fin cfg0.N) (h0 : ¬ t.val % 74 = 0) (h1 : t.val % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2]
  rw [Phi_succ, Phi_castSucc, show (dats m 0 c).owesAt () t.succ = (dats m 0 c).owesAt () t.castSucc from rfl]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from rfl, after0_3, yAt_b m c t h1]
  simp only [before_4 m c t h0, before_5 m c t h0]
  iintro ⟨⟨⟨⟨%X, %hX, HS0⟩, HS1⟩, Hg⟩, Ho, ⟨%d0, H0⟩, ⟨%d1, H1⟩, ⟨%d2, H2⟩, ⟨%d3, H3⟩, ⟨%d4, H4⟩, ⟨%d5, H5⟩⟩
  obtain rfl := hX h0
  iapply ((runB c (grid0.coords t) _ _ _ _ _ _ _ _ _ _ _ _ _ _ _ _ (fun h => h0 ((hcond0_0 t).mp h)) (fun h => by have := (hcond0_1 t).mp h; omega) ((hcond0_2 t).mpr h1) (iblk m c 0 t) (iblk m c 1 t) (iblk m c 2 t) (xbB (xB m c t.val)) (codeB (xB m c t.val)) (scaleB (xB m c t.val))) Set.univ _)
  isplitl [H0]; · iexact H0
  isplitl [H1]; · iexact H1
  isplitl [H2]; · iexact H2
  isplitl [H3]; · iexists _; iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexists _
        isplitr; swap; · iexact HS0
        ipureintro; intro h; rw [xB_succ m c t.val h]
      iexact HS1
    iexact Hg
  isplitl [Ho]; · iexact Ho
  isplitl [H0]; · iexact H0
  isplitl [H1]; · iexact H1
  isplitl [H2]; · iexact H2
  isplitl [H3]; · iexact H3
  isplitl [H4]; · iapply (idle_4 m c t h0); iexact H4
  iapply (idle_5 m c t h0); iexact H5

set_option maxHeartbeats 2400000 in
/-- The body at a point of case C. -/
theorem body_C (c : Dev nD) (t : Fin cfg0.N) (h0 : ¬ t.val % 74 = 0) (h1 : t.val % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [Phi_succ, Phi_castSucc, show (dats m 0 c).owesAt () t.succ = (dats m 0 c).owesAt () t.castSucc from rfl]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from rfl, after0_3, yAt_c m c t h1]
  simp only [before_4 m c t h0, before_5 m c t h0]
  iintro ⟨⟨⟨⟨%X, %hX, HS0⟩, HS1⟩, Hg⟩, Ho, ⟨%d0, H0⟩, ⟨%d1, H1⟩, ⟨%d2, H2⟩, ⟨%d3, H3⟩, ⟨%d4, H4⟩, ⟨%d5, H5⟩⟩
  obtain rfl := hX h0
  iapply ((runC c (grid0.coords t) _ _ _ _ _ _ _ _ _ _ _ _ _ _ _ _ (fun h => h0 ((hcond0_0 t).mp h)) ((hcond0_1 t).mpr h1) (fun h => by have := (hcond0_2 t).mp h; omega) (iblk m c 0 t) (iblk m c 1 t) (iblk m c 2 t) (xbB (xB m c t.val)) (codeB (xB m c t.val)) (scaleB (xB m c t.val))) Set.univ _)
  isplitl [H0]; · iexact H0
  isplitl [H1]; · iexact H1
  isplitl [H2]; · iexact H2
  isplitl [H3]; · iexists _; iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexists _
        isplitr; swap; · iexact HS0
        ipureintro; intro h; rw [xB_succ m c t.val h]
      iexact HS1
    iexact Hg
  isplitl [Ho]; · iexact Ho
  isplitl [H0]; · iexact H0
  isplitl [H1]; · iexact H1
  isplitl [H2]; · iexact H2
  isplitl [H3]; · iexact H3
  isplitl [H4]; · iapply (idle_4 m c t h0); iexact H4
  iapply (idle_5 m c t h0); iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 74 = 0
  · exact body_A m c t h0
  · by_cases h1 : t.val % 2 = 0
    · exact body_C m c t h0 h1
    · exact body_B m c t h0 (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Phi_in (c : Dev nD) : (Pipeline.ΦA spec0 c : sProp 𝕄) ⊢ (dats m 0 c).Φ 0 := by
  rw [PhiA0_eq, Phi_eq]; unfold PhiS
  iintro ⟨⟨⟨%X, HS0⟩, HS1⟩, Hg⟩
  isplitl [HS0 HS1]
  · isplitl [HS0]
    · iexists X
      isplitr; swap; · iexact HS0
      ipureintro; intro h; exact absurd rfl h
    iexact HS1
  iexact Hg

theorem Phi_out (c : Dev nD) : (dats m 0 c).Φ (Fin.last cfg0.N) ⊢ (Pipeline.ΦA spec0 c : sProp 𝕄) := by
  rw [PhiA0_eq, Phi_eq]; unfold PhiS
  iintro ⟨⟨⟨%X, %hX, HS0⟩, HS1⟩, Hg⟩
  isplitl [HS0 HS1]
  · isplitl [HS0]
    · iexists X; iexact HS0
    iexact HS1
  iexact Hg

set_option backward.isDefEq.respectTransparency.types false in
/-- The launch: the arrays after the run, and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The arrays after the run. -/
theorem final : θ_run defs (onTc (τ := τ) (main (F := F))) ⟨m, fun _ => 0, ρ⟩ (fun r => ∀ c : Dev nD,
      r.2.mem ((c.tc : Thread nD τ).loc main_v1_0) = (dats m 0 c).arrAt 3 cfg0.N
      ∧ r.2.mem ((c.tc : Thread nD τ).loc main_v1_1) = (dats m 0 c).arrAt 4 cfg0.N
      ∧ r.2.mem ((c.tc : Thread nD τ).loc main_v1_2) = (dats m 0 c).arrAt 5 cfg0.N) :=
  (θ_run defs _ _).mono (fun _ h c => ⟨(h c).1 3, (h c).1 4, (h c).1 5⟩) (run_main m ρ)

end Cert.KernelIdeal.Hand

end
-- ==== Proof.Kern.Arrays.lean ====
/- What the three result arrays hold after the kernel, element by element, on the extended reals. -/
module

public import proofs.«01_k».proof.Proof.Kern.Weights
public import proofs.«01_k».proof.Proof.Kern.Data
public import Idealize.ShloMosaic.Lib.MatmulPlain
public import Idealize.ShloMosaic.Lib.Pipeline.ValueKit.Geometry

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Spec

variable (m : (ℓ : Loc nD τ sig) → Buf (Elt Ideal) ℓ)

/-- The rows of x, the packed weights and the scale bytes as the launch finds them. -/
def X0 (c : Dev nD) : Fin 12288 → Fin 3584 → EReal := fun R d => V m c main_v0 (ValueIdx.ix2 R d)
def WP0 (c : Dev nD) : Fin 3584 → Fin 9472 → BitVec 8 := fun k C => m ((c : Thread nD τ).loc main_arg1) (ValueIdx.ix2 k C)
def WS0 (c : Dev nD) : Fin 112 → Fin 18944 → BitVec 8 := fun g C => m ((c : Thread nD τ).loc main_arg2) (ValueIdx.ix2 g C)

theorem index_0 : ∀ t : Fin cfg0.N, win0_0.index t = ![t.val / 74, 0] := (by decide +kernel : ∀ t : Fin grid0.N, _)
theorem index_1 : ∀ t : Fin cfg0.N, win0_1.index t = ![0, t.val / 2 % 37] := (by decide +kernel : ∀ t : Fin grid0.N, _)
theorem index_2 : ∀ t : Fin cfg0.N, win0_2.index t = ![0, t.val % 2 * 37 + t.val / 2 % 37] := (by decide +kernel : ∀ t : Fin grid0.N, _)
theorem index_3 : ∀ t : Fin cfg0.N, win0_3.index t = ![t.val / 74, t.val % 2 * 37 + t.val / 2 % 37] := (by decide +kernel : ∀ t : Fin grid0.N, _)
theorem index_4 : ∀ t : Fin cfg0.N, win0_4.index t = ![t.val / 74, 0] := (by decide +kernel : ∀ t : Fin grid0.N, _)
theorem index_5 : ∀ t : Fin cfg0.N, win0_5.index t = ![t.val / 74, 0] := (by decide +kernel : ∀ t : Fin grid0.N, _)

theorem N_lt (t : Fin cfg0.N) : t.val < 888 := Nat.lt_of_lt_of_eq t.isLt N_0

theorem iblk_0 (c : Dev nD) (t : Fin cfg0.N) (a : Fin 1024) (d : Fin 3584) :
    iblk m c 0 t (ValueIdx.ix2 a d) = X0 m c ⟨1024 * (t.val / 74) + a.val, by have := N_lt t; omega⟩ d := by
  unfold X0
  blk_ext [iblk, index_0]
  show t.val / 74 * 1024 + a.val = 1024 * (t.val / 74) + a.val
  omega

theorem iblk_1 (c : Dev nD) (t : Fin cfg0.N) (k : Fin 3584) (l : Fin 256) :
    iblk m c 1 t (ValueIdx.ix2 k l) = WP0 m c k ⟨256 * (t.val / 2 % 37) + l.val, by omega⟩ := by
  unfold WP0
  rw [← V_main_arg1 m c]
  blk_ext [iblk, index_1]
  show t.val / 2 % 37 * 256 + l.val = 256 * (t.val / 2 % 37) + l.val
  omega

theorem iblk_2 (c : Dev nD) (t : Fin cfg0.N) (g : Fin 112) (l : Fin 256) :
    iblk m c 2 t (ValueIdx.ix2 g l) = WS0 m c g ⟨256 * (t.val % 2 * 37 + t.val / 2 % 37) + l.val, by omega⟩ := by
  unfold WS0
  rw [← V_main_arg2 m c]
  blk_ext [iblk, index_2]
  show (t.val % 2 * 37 + t.val / 2 % 37) * 256 + l.val = 256 * (t.val % 2 * 37 + t.val / 2 % 37) + l.val
  omega

theorem base_div (t : Fin cfg0.N) : (base t.val).val / 74 = t.val / 74 := by
  have := N_lt t
  show 74 * (t.val / 74) % 888 / 74 = t.val / 74
  omega

/-- The rows of x in use at a point. -/
theorem rowOf_xB (c : Dev nD) (t : Fin cfg0.N) (a : Fin 1024) :
    rowOf (xB m c t.val) a = X0 m c ⟨1024 * (t.val / 74) + a.val, by have := N_lt t; omega⟩ := by
  funext d
  unfold rowOf xB
  refine (iblk_0 m c (base t.val) a d).trans ?_
  refine congrArg (fun R => X0 m c R d) (Fin.ext ?_)
  show 1024 * ((base t.val).val / 74) + a.val = 1024 * (t.val / 74) + a.val
  rw [base_div]

theorem code_xB (c : Dev nD) (t : Fin cfg0.N) (a : Fin 1024) (d : Fin 3584) :
    codeB (xB m c t.val) (ValueIdx.ix2 a d) = rowCode (X0 m c ⟨1024 * (t.val / 74) + a.val, by have := N_lt t; omega⟩) d := by
  rw [codeB_apply, rowOf_xB]

theorem scale_xB (c : Dev nD) (t : Fin cfg0.N) (a : Fin 1024) (g : Fin 112) :
    scaleB (xB m c t.val) (ValueIdx.ix2 a g) = rowScale (X0 m c ⟨1024 * (t.val / 74) + a.val, by have := N_lt t; omega⟩) g := by
  rw [scaleB_apply, rowOf_xB]

/-- One element of the product's block. -/
theorem pay5_apply (xb : FVec Ideal S1024x3584 .bf16) (w : FVec Ideal S3584x256 .bf16) (a : Fin 1024) (l : Fin 256) :
    k0_pay6 xb w (ValueIdx.ix2 a l) = ∑ k : Fin 3584, xb (ValueIdx.ix2 a k) * w (ValueIdx.ix2 k l) := by
  have h := Ideal.matmul_plain_apply (M := 1024) (K := 3584) (N := 256) none xb w (constant S1024x256 .f32 0) a l
  refine Eq.trans h ?_
  show Ideal.ofBits .f32 0#32 + _ = _
  have e0 : Ideal.ofBits .f32 0#32 = 0 := by simp [Ideal.ofBits, Ideal.ieee]
  rw [e0, zero_add]

theorem yAt_apply (c : Dev nD) (t : Fin cfg0.N) (a : Fin 1024) (l : Fin 256) :
    yAt m c t (ValueIdx.ix2 a l) = prodAt (X0 m c) (WP0 m c) (WS0 m c) ⟨1024 * (t.val / 74) + a.val, by have := N_lt t; omega⟩
      ⟨256 * (t.val % 2 * 37 + t.val / 2 % 37) + l.val, by omega⟩ := by
  unfold yAt prodAt
  refine (pay5_apply _ _ a l).trans ?_
  refine Finset.sum_congr rfl fun k _ => ?_
  rw [xbB_apply, rowOf_xB]
  refine congrArg (rowXb _ k * ·) ?_
  unfold colW
  by_cases h : t.val % 2 = 0
  · rw [if_pos h, dif_pos (show 256 * (t.val % 2 * 37 + t.val / 2 % 37) + l.val < 9472 by omega)]
    refine (wLo_apply _ _ k l).trans ?_
    rw [iblk_1, iblk_2]
    refine congrArg (fun C => dec (nibLo (WP0 m c k C)) * _) (Fin.ext ?_)
    show 256 * (t.val / 2 % 37) + l.val = 256 * (t.val % 2 * 37 + t.val / 2 % 37) + l.val
    omega
  · rw [if_neg h, dif_neg (show ¬ 256 * (t.val % 2 * 37 + t.val / 2 % 37) + l.val < 9472 by omega)]
    refine (wHi_apply _ _ k l).trans ?_
    rw [iblk_1, iblk_2]
    refine congrArg (fun C => dec (nibHi (WP0 m c k C)) * _) (Fin.ext ?_)
    show 256 * (t.val / 2 % 37) + l.val = 256 * (t.val % 2 * 37 + t.val / 2 % 37) + l.val - 9472
    omega

/-- The product's array. -/
def G3 (c : Dev nD) (R : Fin 12288) (C : Fin 18944) : EReal := prodAt (X0 m c) (WP0 m c) (WS0 m c) R C

theorem emb_3 (t : Fin cfg0.N) (a : Fin 1024) (l : Fin 256) (R : Fin 12288) (C : Fin 18944) (hR : R.val = 1024 * (t.val / 74) + a.val)
    (hC : C.val = 256 * (t.val % 2 * 37 + t.val / 2 % 37) + l.val) : ((cfg0.win 3).blk t).view.emb (ValueIdx.ix2 a l) = ValueIdx.ix2 R C := by
  funext j
  match j with
  | ⟨0, _⟩ =>
    apply Fin.ext
    blk_simp [index_3]
    show t.val / 74 * 1024 + a.val = R.val
    omega
  | ⟨1, _⟩ =>
    apply Fin.ext
    blk_simp [index_3]
    show (t.val % 2 * 37 + t.val / 2 % 37) * 256 + l.val = C.val
    omega

theorem arr_3 (c : Dev nD) : (dats m 0 c).arrAt 3 cfg0.N = (fun y : S12288x18944.Idx => G3 m c (y 0) (y 1)) := by
  refine (dats m 0 c).arrAt_eq_of_covers 3 _ (by decide +kernel) fun t hf y => ?_
  obtain ⟨a, l, rfl⟩ : ∃ (a : Fin 1024) (l : Fin 256), y = ValueIdx.ix2 a l := ⟨y 0, y 1, ValueIdx.eq_ix2 y⟩
  have e := emb_3 t a l ⟨1024 * (t.val / 74) + a.val, by have := N_lt t; omega⟩ ⟨256 * (t.val % 2 * 37 + t.val / 2 % 37) + l.val, by omega⟩ rfl rfl
  refine Eq.trans ?_ (congrArg (fun y : S12288x18944.Idx => G3 m c (y 0) (y 1)) e.symm)
  refine Eq.trans (congrFun (after0_3 m c t) _) ?_
  exact yAt_apply m c t a l

/-- The codes' array. -/
def G4 (c : Dev nD) (R : Fin 12288) (C : Fin 3584) : EReal := rowCode (X0 m c R) C

theorem emb_4 (t : Fin cfg0.N) (a : Fin 1024) (l : Fin 3584) (R : Fin 12288) (C : Fin 3584) (hR : R.val = 1024 * (t.val / 74) + a.val)
    (hC : C.val = l.val) : ((cfg0.win 4).blk t).view.emb (ValueIdx.ix2 a l) = ValueIdx.ix2 R C := by
  funext j
  match j with
  | ⟨0, _⟩ =>
    apply Fin.ext
    blk_simp [index_4]
    show t.val / 74 * 1024 + a.val = R.val
    omega
  | ⟨1, _⟩ =>
    apply Fin.ext
    blk_simp [index_4]
    show l.val = C.val
    omega

theorem arr_4 (c : Dev nD) : (dats m 0 c).arrAt 4 cfg0.N = (fun y : S12288x3584.Idx => G4 m c (y 0) (y 1)) := by
  refine (dats m 0 c).arrAt_eq_of_covers 4 _ (by decide +kernel) fun t hf y => ?_
  obtain ⟨a, l, rfl⟩ : ∃ (a : Fin 1024) (l : Fin 3584), y = ValueIdx.ix2 a l := ⟨y 0, y 1, ValueIdx.eq_ix2 y⟩
  have e := emb_4 t a l ⟨1024 * (t.val / 74) + a.val, by have := N_lt t; omega⟩ ⟨l.val, by omega⟩ rfl rfl
  refine Eq.trans ?_ (congrArg (fun y : S12288x3584.Idx => G4 m c (y 0) (y 1)) e.symm)
  refine Eq.trans (congrFun (after0_4 m c t) _) ?_
  exact code_xB m c t a l

/-- The scales' array. -/
def G5 (c : Dev nD) (R : Fin 12288) (C : Fin 112) : EReal := rowScale (X0 m c R) C

theorem emb_5 (t : Fin cfg0.N) (a : Fin 1024) (l : Fin 112) (R : Fin 12288) (C : Fin 112) (hR : R.val = 1024 * (t.val / 74) + a.val)
    (hC : C.val = l.val) : ((cfg0.win 5).blk t).view.emb (ValueIdx.ix2 a l) = ValueIdx.ix2 R C := by
  funext j
  match j with
  | ⟨0, _⟩ =>
    apply Fin.ext
    blk_simp [index_5]
    show t.val / 74 * 1024 + a.val = R.val
    omega
  | ⟨1, _⟩ =>
    apply Fin.ext
    blk_simp [index_5]
    show l.val = C.val
    omega

theorem arr_5 (c : Dev nD) : (dats m 0 c).arrAt 5 cfg0.N = (fun y : S12288x112.Idx => G5 m c (y 0) (y 1)) := by
  refine (dats m 0 c).arrAt_eq_of_covers 5 _ (by decide +kernel) fun t hf y => ?_
  obtain ⟨a, l, rfl⟩ : ∃ (a : Fin 1024) (l : Fin 112), y = ValueIdx.ix2 a l := ⟨y 0, y 1, ValueIdx.eq_ix2 y⟩
  have e := emb_5 t a l ⟨1024 * (t.val / 74) + a.val, by have := N_lt t; omega⟩ ⟨l.val, by omega⟩ rfl rfl
  refine Eq.trans ?_ (congrArg (fun y : S12288x112.Idx => G5 m c (y 0) (y 1)) e.symm)
  refine Eq.trans (congrFun (after0_5 m c t) _) ?_
  exact scale_xB m c t a l

end Cert.KernelIdeal.Hand

end
-- ==== Proof.Ref.Quant.lean ====
/- The reference's quantiser, element by element, on the extended reals. -/
module

public import proofs.«01_k».proof.Proof.Gen.ReferenceIdeal.Frame
public import proofs.«01_k».proof.Proof.Kern.Spec
public import Idealize.ShloMosaic.Lib.ValueIdx
public import Idealize.ShloMosaic.Lib.Pipeline.Value
public import Idealize.ShloMosaic.Lib.Pointwise.Reshape

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

open Cert.Spec

/-- Row `R` of x. -/
def rowOf (x : Vec Ideal S12288x3584 .bf16) (R : Fin 12288) : Fin 3584 → EReal := fun d => x (ValueIdx.ix2 R d)

theorem select_decide {p : Prop} [Decidable p] (x y : EReal) : Scalar.select (BitVec.ofBool (decide p)) x y = if p then x else y := by
  by_cases h : p
  · rw [decide_eq_true h, if_pos h]; exact if_pos rfl
  · rw [decide_eq_false h, if_neg h]; exact if_neg (by decide)

section Pointwise
variable {s : Shape} {φ ψ : FTy} (a b : FVec Ideal s φ) (i : s.Idx)
theorem mulf_at : mulf a b i = (a i * b i : EReal) := rfl
theorem subf_at : subf a b i = (a i - b i : EReal) := rfl
theorem divf_at : divf a b i = Ideal.div (a i) (b i) := rfl
theorem maximumf_at : maximumf a b i = (max (a i) (b i) : EReal) := rfl
theorem minimumf_at : minimumf a b i = (min (a i) (b i) : EReal) := rfl
theorem cmpf_at : cmpf .olt a b i = Ideal.cmp .olt (a i) (b i) := rfl
theorem select_at (c : IVec s 1) : select c a b i = Scalar.select (c i) (a i) (b i) := rfl
theorem const_at (w : BitVec φ.bits) : broadcast s (Scalar.ofBits (F := Ideal) φ w) i = Ideal.ofBits φ w := rfl
theorem truncf_at (h : ψ.bits < φ.bits) : truncf ψ a h i = a i := rfl
theorem extf_at (h : φ.bits < ψ.bits) : extf ψ a h i = a i := rfl
end Pointwise

theorem pay3_apply (x : Vec Ideal S12288x3584 .bf16) (R : Fin 12288) (g : Fin 112) (i : Fin 32) :
    k0_pay3 (F := Ideal) x (ValueIdx.ix3 R g i) = x (ValueIdx.ix2 R ⟨32 * g.val + i.val, by omega⟩) := by
  unfold k0_pay3
  refine (shapeCast_apply _ _ _ (ValueIdx.ix2 R ⟨32 * g.val + i.val, by omega⟩) ?_).trans (congrFun (shapeCast_self _ _) _)
  rw [rowMajor_val2 _ 3584 rfl, rowMajor_val3 _ 3584 32 rfl rfl]
  show R.val * 3584 + (32 * g.val + i.val) = R.val * 3584 + g.val * 32 + i.val
  omega

/-- The groups' largest magnitudes. -/
def maxOf (x : Vec Ideal S12288x3584 .bf16) : FVec Ideal S12288x112 .f32 :=
  multiReduction .maximumf [2] S12288x112 (absf (k0_pay3 (F := Ideal) x)) 0xFF800000#32 reduces_S12288x112x32_S12288x112 (.inl rfl) rfl

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

theorem lift32 (R : Fin 12288) (g : Fin 112) (i : Fin 32) :
    reduces_S12288x112x32_S12288x112.lift (ValueIdx.ix2 R g) i = ValueIdx.ix3 R g i := by
  funext c
  match c with
  | ⟨0, _⟩ => rfl
  | ⟨1, _⟩ => rfl
  | ⟨2, _⟩ => rfl

theorem size246 : S12288x112x246.size 2 = 246 := rfl

theorem lift246 (R : Fin 12288) (g : Fin 112) (i : Fin (S12288x112x246.size 2)) :
    reduces_S12288x112x246_S12288x112.lift (ValueIdx.ix2 R g) i = ValueIdx.ix3 R g ⟨i.val, Nat.lt_of_lt_of_eq i.isLt size246⟩ := by
  funext c
  match c with
  | ⟨0, _⟩ => rfl
  | ⟨1, _⟩ => rfl
  | ⟨2, _⟩ => rfl

theorem maxOf_apply (x : Vec Ideal S12288x3584 .bf16) (R : Fin 12288) (g : Fin 112) :
    maxOf x (ValueIdx.ix2 R g) = gmax (grp (rowOf x R) g) := by
  unfold maxOf
  refine (Ideal.multiReduction_maximumf_single (a := 2) _ _ _ _ _ _).trans ?_
  unfold gmax
  show (Finset.univ : Finset (Fin 32)).fold max (Ideal.ofBits .f32 0xFF800000#32) _ = _
  rw [neg_inf]
  refine Finset.fold_congr fun i _ => ?_
  show max (k0_pay3 (F := Ideal) x (reduces_S12288x112x32_S12288x112.lift (ValueIdx.ix2 R g) i)) (-(k0_pay3 (F := Ideal) x (reduces_S12288x112x32_S12288x112.lift (ValueIdx.ix2 R g) i))) = _
  rw [lift32, pay3_apply]
  rfl

/-- A group's value spread over a last axis. -/
theorem spread_apply {φ : FTy} {n : ℕ} (v : FVec Ideal S12288x112 φ) (h : S12288x112x1.Broadcasts ⟨3, ![12288, 112, n]⟩) (hn : n ≠ 1)
    (R : Fin 12288) (g : Fin 112) (i : Fin n) :
    broadcastTo ⟨3, ![12288, 112, n]⟩ (shapeCast S12288x112x1 v shapeCasts_S12288x112_S12288x112x1) h (ValueIdx.ix3 R g i) = v (ValueIdx.ix2 R g) := by
  refine (broadcastTo_apply _ h _ (ValueIdx.ix3 R g (0 : Fin 1)) (fun a => ?_)).trans ?_
  · match a with
    | ⟨0, _⟩ => rfl
    | ⟨1, _⟩ => rfl
    | ⟨2, _⟩ => rfl
  · refine shapeCast_apply _ _ _ (ValueIdx.ix2 R g) ?_
    rw [rowMajor_val2 _ 112 rfl, rowMajor_val3 _ 112 1 rfl rfl]
    show R.val * 112 + g.val = R.val * 112 + g.val * 1 + 0
    omega

theorem expo_word : ∀ i : Fin 246, (IntOp.subi (BitVec.ofNat 32 i.val) 125#32).toInt = (i.val : ℤ) - 125 := by decide +kernel

theorem exp2_int (k : ℤ) : Ideal.exp2 (((k : ℤ) : ℝ) : EReal) = pw k := by
  rw [Ideal.exp2_coe]
  unfold pw
  congr 1
  exact Real.rpow_intCast 2 k

/-- The powers of two the search runs over. -/
def powers : FVec Ideal S12288x112x246 .f32 :=
  exp2 (sitofp .f32 (subi (iota .tc S12288x112x246 32 [2] iota_S12288x112x246_d2_w32) (broadcast S12288x112x246 125#32)))

theorem powers_apply (R : Fin 12288) (g : Fin 112) (i : Fin 246) : powers (ValueIdx.ix3 R g i) = pw ((i.val : ℤ) - 125) := by
  unfold powers
  show Ideal.exp2 (((IntOp.subi (iota .tc S12288x112x246 32 [2] iota_S12288x112x246_d2_w32 (ValueIdx.ix3 R g i)) 125#32).toInt : ℝ) : EReal) = _
  rw [iota_single_apply]
  show Ideal.exp2 (((IntOp.subi (BitVec.ofNat 32 i.val) 125#32).toInt : ℝ) : EReal) = _
  rw [expo_word, exp2_int]

theorem k448' : Ideal.ofBits .f32 0x43E00000#32 = ((448 : ℝ) : EReal) := by
  have h := ofBits_448pw 0x43E00000#32 0 (by decide) (by decide) (by decide) (by decide) (by decide)
  rw [h]; unfold pw; rw [zpow_zero, ← EReal.coe_mul, mul_one]

/-- Each power of two where it fits, and the largest where it does not. -/
def fitting (x : Vec Ideal S12288x3584 .bf16) : FVec Ideal S12288x112x246 .f32 :=
  select (cmpf .olt (broadcastTo S12288x112x246 (shapeCast S12288x112x1 (maxOf x) shapeCasts_S12288x112_S12288x112x1) broadcasts_S12288x112x1_S12288x112x246)
      (mulf (broadcast S12288x112x246 (Scalar.ofBits .f32 0x43E00000#32)) powers)) powers (broadcast S12288x112x246 (Scalar.ofBits .f32 0x7B800000#32))

open Classical in
theorem fitting_apply (x : Vec Ideal S12288x3584 .bf16) (R : Fin 12288) (g : Fin 112) (i : Fin 246) : fitting x (ValueIdx.ix3 R g i)
    = if fits (gmax (grp (rowOf x R) g)) ((i.val : ℤ) - 125) then pw ((i.val : ℤ) - 125) else pw 120 := by
  unfold fitting
  rw [select_at, cmpf_at, mulf_at, const_at, const_at]
  rw [powers_apply, spread_apply (maxOf x) broadcasts_S12288x112x1_S12288x112x246 (by decide), maxOf_apply, k448',
    ofBits_pw 0x7B800000#32 120 (by decide) (by decide) (by decide) (by decide) (by decide)]
  exact (select_decide _ _).trans (if_congr Iff.rfl rfl rfl)

/-- The least power of two that fits, where one does. -/
def least (x : Vec Ideal S12288x3584 .bf16) : FVec Ideal S12288x112 .f32 :=
  multiReduction .minimumf [2] S12288x112 (fitting x) 0x7F800000#32 reduces_S12288x112x246_S12288x112 (.inl rfl) rfl

open Classical in
theorem least_apply (x : Vec Ideal S12288x3584 .bf16) (R : Fin 12288) (g : Fin 112) :
    least x (ValueIdx.ix2 R g) = (Finset.univ : Finset (Fin 246)).fold min ⊤ fun i =>
      if fits (gmax (grp (rowOf x R) g)) ((i.val : ℤ) - 125) then pw ((i.val : ℤ) - 125) else pw 120 := by
  unfold least
  refine (multiReduction_minimumf_eq_fold _ _ _ _ _ _).trans ?_
  refine (reduces_S12288x112x246_S12288x112.fold_filter_drop_single _ _ _ _).trans ?_
  have key : (fitting x ∘ reduces_S12288x112x246_S12288x112.lift (ValueIdx.ix2 R g)) = fun i : Fin (S12288x112x246.size 2) =>
      if fits (gmax (grp (rowOf x R) g)) ((i.val : ℤ) - 125) then pw ((i.val : ℤ) - 125) else pw 120 := by
    funext i
    rw [Function.comp_apply, lift246]
    exact fitting_apply x R g ⟨i.val, Nat.lt_of_lt_of_eq i.isLt size246⟩
  rw [key]
  show (Finset.univ : Finset (Fin 246)).fold min (Ideal.ofBits .f32 0x7F800000#32) _ = _
  rw [pos_inf]
  rfl

open Classical in
/-- The reference's scales. -/
theorem pay4_apply (x : Vec Ideal S12288x3584 .bf16) (R : Fin 12288) (g : Fin 112) :
    k0_pay4 (F := Ideal) x (ValueIdx.ix2 R g) = rowScale (rowOf x R) g := by
  have e : k0_pay4 (F := Ideal) x = select (cmpf .olt (maxOf x) (broadcast S12288x112 (Scalar.ofBits .f32 0x04E00000#32)))
    (broadcast S12288x112 (Scalar.ofBits .f32 0x3F800000#32)) (least x) := rfl
  rw [e, select_at, cmpf_at, const_at, const_at]
  rw [maxOf_apply, least_apply, ofBits_448pw 0x04E00000#32 (-126) (by decide) (by decide) (by decide) (by decide) (by decide),
    ofBits_pw 0x3F800000#32 0 (by decide) (by decide) (by decide) (by decide) (by decide)]
  unfold rowScale scale
  rw [show pw 0 = 1 by unfold pw; rw [zpow_zero]; rfl]
  exact (select_decide _ _).trans (if_congr Iff.rfl rfl rfl)

/-- The reference's codes, in groups. -/
theorem pay5_apply (x : Vec Ideal S12288x3584 .bf16) (R : Fin 12288) (g : Fin 112) (i : Fin 32) :
    k0_pay5 (F := Ideal) x (ValueIdx.ix3 R g i) = rowCode (rowOf x R) ⟨32 * g.val + i.val, by omega⟩ := by
  have e0 : k0_pay5 (F := Ideal) x = truncf .fp8e4m3 (minimumf (broadcast S12288x112x32 (Scalar.ofBits .f32 0x43E00000#32))
    (maximumf (broadcast S12288x112x32 (Scalar.ofBits .f32 0xC3E00000#32)) (mulf (k0_pay3 (F := Ideal) x)
      (broadcastTo S12288x112x32 (shapeCast S12288x112x1 (divf (broadcast S12288x112 (Scalar.ofBits .f32 0x3F800000#32)) (k0_pay4 (F := Ideal) x)) shapeCasts_S12288x112_S12288x112x1)
        broadcasts_S12288x112x1_S12288x112x32)))) bitsLt_fp8e4m3_f32 := rfl
  rw [e0, truncf_at, minimumf_at, maximumf_at, mulf_at, const_at, const_at]
  rw [pay3_apply, spread_apply _ broadcasts_S12288x112x1_S12288x112x32 (by decide)]
  unfold rowCode
  have e : divf (broadcast S12288x112 (Scalar.ofBits .f32 0x3F800000#32)) (k0_pay4 (F := Ideal) x) (ValueIdx.ix2 R g)
      = Ideal.div 1 (rowScale (rowOf x R) (groupOf ⟨32 * g.val + i.val, by omega⟩)) := by
    rw [divf_at, const_at, pay4_apply, ofBits_pw 0x3F800000#32 0 (by decide) (by decide) (by decide) (by decide) (by decide), show pw 0 = 1 by unfold pw; rw [zpow_zero]; rfl]
    congr 2
    exact Fin.ext (by show g.val = (32 * g.val + i.val) / 32; omega)
  rw [e]
  rfl

/-- Groups of 32 put back in a row. -/
theorem flat_apply {α : Type} (v : S12288x112x32.Idx → α) (R : Fin 12288) (d : Fin 3584) :
    shapeCast S12288x3584 v shapeCasts_S12288x112x32_S12288x3584 (ValueIdx.ix2 R d) = v (ValueIdx.ix3 R (groupOf d) ⟨d.val % 32, by omega⟩) := by
  refine shapeCast_apply _ _ _ _ ?_
  rw [rowMajor_val2 _ 3584 rfl, rowMajor_val3 _ 3584 32 rfl rfl]
  show R.val * 3584 + d.val / 32 * 32 + d.val % 32 = R.val * 3584 + d.val
  omega

theorem regroup (d : Fin 3584) : (⟨32 * (groupOf d).val + d.val % 32, by unfold groupOf; omega⟩ : Fin 3584) = d :=
  Fin.ext (by show 32 * (d.val / 32) + d.val % 32 = d.val; omega)

/-- The reference's codes. -/
theorem pay2_apply (x : Vec Ideal S12288x3584 .bf16) (R : Fin 12288) (d : Fin 3584) :
    k0_pay2 (F := Ideal) (k0_pay5 (F := Ideal) x) (ValueIdx.ix2 R d) = rowCode (rowOf x R) d := by
  unfold k0_pay2
  refine (flat_apply _ R d).trans ?_
  refine (pay5_apply x R (groupOf d) ⟨d.val % 32, by omega⟩).trans ?_
  exact congrArg (rowCode (rowOf x R)) (regroup d)

/-- The reference's dequantised rows. -/
theorem pay6_apply (x : Vec Ideal S12288x3584 .bf16) (R : Fin 12288) (d : Fin 3584) :
    k0_pay6 (F := Ideal) x (ValueIdx.ix2 R d) = rowXb (rowOf x R) d := by
  have e0 : k0_pay6 (F := Ideal) x = shapeCast S12288x3584 (mulf (extf .bf16 (k0_pay5 (F := Ideal) x) bitsLt_fp8e4m3_bf16)
    (broadcastTo S12288x112x32 (shapeCast S12288x112x1 (truncf .bf16 (k0_pay4 (F := Ideal) x) bitsLt_bf16_f32) shapeCasts_S12288x112_S12288x112x1)
      broadcasts_S12288x112x1_S12288x112x32)) shapeCasts_S12288x112x32_S12288x3584 := rfl
  rw [e0, flat_apply]
  rw [mulf_at, extf_at]
  have h := spread_apply (truncf .bf16 (k0_pay4 (F := Ideal) x) bitsLt_bf16_f32) broadcasts_S12288x112x1_S12288x112x32 (by decide) R (groupOf d) ⟨d.val % 32, by omega⟩
  refine (congrArg₂ (· * ·) (pay5_apply x R (groupOf d) ⟨d.val % 32, by omega⟩) h).trans ?_
  rw [truncf_at, pay4_apply]
  exact congrArg (fun d' => rowCode (rowOf x R) d' * rowScale (rowOf x R) (groupOf d)) (regroup d)

end Cert.ReferenceIdeal.Hand

end
-- ==== Proof.Ref.Weights.lean ====
/- The reference's decoder and products, element by element, on the extended reals. -/
module

public import proofs.«01_k».proof.Proof.Ref.Quant
public import Idealize.ShloMosaic.Lib.MatmulPlain
public import Mathlib.Tactic.IntervalCases

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

open Cert.Spec

/-- One bit of a nibble, as a condition. -/
def bitOf (n b : BitVec 32) : BitVec 1 := IntOp.cmpi .ne (IntOp.andi n b) 0#32

/-- The decoder's choice by bits. -/
def tree (b1 b2 b4 b8 : BitVec 1) : EReal :=
  let t := Scalar.select b4
    (Scalar.select b2 (Scalar.select b1 (Ideal.ofBits .bf16 0x40C0#16) (Ideal.ofBits .bf16 0x4080#16)) (Scalar.select b1 (Ideal.ofBits .bf16 0x4040#16) (Ideal.ofBits .bf16 0x4000#16)))
    (Scalar.select b2 (Scalar.select b1 (Ideal.ofBits .bf16 0x3FC0#16) (Ideal.ofBits .bf16 0x3F80#16)) (Scalar.select b1 (Ideal.ofBits .bf16 0x3F00#16) (Ideal.ofBits .bf16 0x0000#16)))
  Scalar.select b8 (Ideal.ofBits .bf16 0x0000#16 - t) t

theorem c6 : Ideal.ofBits .bf16 0x40C0#16 = ((6 : ℝ) : EReal) := by simp [Ideal.ofBits, Ideal.ieee, -EReal.coe_mul]; norm_num
theorem c4 : Ideal.ofBits .bf16 0x4080#16 = ((4 : ℝ) : EReal) := by simp [Ideal.ofBits, Ideal.ieee, -EReal.coe_mul]; norm_num
theorem c3 : Ideal.ofBits .bf16 0x4040#16 = ((3 : ℝ) : EReal) := by simp [Ideal.ofBits, Ideal.ieee, -EReal.coe_mul]; norm_num
theorem c2 : Ideal.ofBits .bf16 0x4000#16 = ((2 : ℝ) : EReal) := by simp [Ideal.ofBits, Ideal.ieee, -EReal.coe_mul]; norm_num
theorem c15 : Ideal.ofBits .bf16 0x3FC0#16 = ((3 / 2 : ℝ) : EReal) := by simp [Ideal.ofBits, Ideal.ieee, -EReal.coe_mul]; norm_num
theorem c1 : Ideal.ofBits .bf16 0x3F80#16 = ((1 : ℝ) : EReal) := by simp [Ideal.ofBits, Ideal.ieee, -EReal.coe_mul]; norm_num
theorem c05 : Ideal.ofBits .bf16 0x3F00#16 = ((1 / 2 : ℝ) : EReal) := by simp [Ideal.ofBits, Ideal.ieee, -EReal.coe_mul]; norm_num
theorem c0 : Ideal.ofBits .bf16 0x0000#16 = ((0 : ℝ) : EReal) := by simp [Ideal.ofBits, Ideal.ieee]

theorem sel1 (x y : EReal) : Scalar.select 1#1 x y = x := if_pos rfl
theorem sel0 (x y : EReal) : Scalar.select 0#1 x y = y := if_neg (by decide)

theorem bit_word : ∀ i : Fin 16, bitOf (BitVec.ofNat 32 i.val) 1#32 = BitVec.ofBool (i.val.testBit 0)
    ∧ bitOf (BitVec.ofNat 32 i.val) 2#32 = BitVec.ofBool (i.val.testBit 1) ∧ bitOf (BitVec.ofNat 32 i.val) 4#32 = BitVec.ofBool (i.val.testBit 2)
    ∧ bitOf (BitVec.ofNat 32 i.val) 8#32 = BitVec.ofBool (i.val.testBit 3) := by decide +kernel

/-- The choice by bits is the nibble's value. -/
theorem tree_value (n : ℕ) (hn : n < 16) :
    tree (bitOf (BitVec.ofNat 32 n) 1#32) (bitOf (BitVec.ofNat 32 n) 2#32) (bitOf (BitVec.ofNat 32 n) 4#32) (bitOf (BitVec.ofNat 32 n) 8#32) = dec n := by
  obtain ⟨h1, h2, h4, h8⟩ := bit_word ⟨n, hn⟩
  dsimp only at h1 h2 h4 h8
  rw [h1, h2, h4, h8]
  unfold tree
  rw [c6, c4, c3, c2, c15, c1, c05, c0]
  have t1 : BitVec.ofBool true = 1#1 := rfl
  have t0 : BitVec.ofBool false = 0#1 := rfl
  interval_cases n <;> simp [Nat.testBit, t1, t0, sel1, sel0, dec, mag, ← EReal.coe_sub, -EReal.coe_sub]

theorem low_word (b : BitVec 8) : IntOp.andi (b.setWidth 32) 15#32 = BitVec.ofNat 32 (nibLo b) := by
  have key : ∀ i : Fin 256, IntOp.andi ((BitVec.ofNat 8 i.val).setWidth 32) 15#32 = BitVec.ofNat 32 (nibLo (BitVec.ofNat 8 i.val)) := by decide +kernel
  have h := key ⟨b.toNat, b.isLt⟩
  simpa using h

theorem high_word (b : BitVec 8) : IntOp.shrsi .vector (b.setWidth 32) 4#32 = BitVec.ofNat 32 (nibHi b) := by
  have key : ∀ i : Fin 256, IntOp.shrsi .vector ((BitVec.ofNat 8 i.val).setWidth 32) 4#32 = BitVec.ofNat 32 (nibHi (BitVec.ofNat 8 i.val)) := by decide +kernel
  have h := key ⟨b.toNat, b.isLt⟩
  simpa using h

/-- The value of a scale byte, as the reference computes it. -/
def expo (w : BitVec 32) : EReal :=
  Scalar.select (IntOp.cmpi .eq w 0#32) (Ideal.ofBits .f32 0x00000000#32) (Scalar.select (IntOp.cmpi .eq w 255#32) (Ideal.ofBits .f32 0x7F800000#32)
    (Ideal.exp2 (((IntOp.subi w 127#32).toInt : ℝ) : EReal)))

theorem expo_value (b : BitVec 8) : expo (b.setWidth 32) = e8 b := by
  have key : ∀ i : Fin 256, (IntOp.cmpi .eq ((BitVec.ofNat 8 i.val).setWidth 32) 0#32 = BitVec.ofBool (decide (BitVec.ofNat 8 i.val = 0#8)))
      ∧ (IntOp.cmpi .eq ((BitVec.ofNat 8 i.val).setWidth 32) 255#32 = BitVec.ofBool (decide (BitVec.ofNat 8 i.val = 255#8)))
      ∧ (IntOp.subi ((BitVec.ofNat 8 i.val).setWidth 32) 127#32).toInt = ((BitVec.ofNat 8 i.val).toNat : ℤ) - 127 := by decide +kernel
  have h := key ⟨b.toNat, b.isLt⟩
  simp only [BitVec.ofNat_toNat, BitVec.setWidth_eq] at h
  obtain ⟨h1, h2, h3⟩ := h
  unfold expo e8
  rw [h1, h2, h3, select_decide, select_decide, exp2_int, pos_inf]
  rw [show Ideal.ofBits .f32 0x00000000#32 = 0 by simp [Ideal.ofBits, Ideal.ieee]]

/-! ## The low nibbles -/

theorem split_apply {α : Type} (v : S3584x9472.Idx → α) (g : Fin 112) (i : Fin 32) (C : Fin 9472) :
    shapeCast S112x32x9472 v shapeCasts_S3584x9472_S112x32x9472 (ValueIdx.ix3 g i C) = v (ValueIdx.ix2 ⟨32 * g.val + i.val, by omega⟩ C) := by
  refine shapeCast_apply _ _ _ _ ?_
  rw [rowMajor_val2 _ 9472 rfl, rowMajor_val3 _ 303104 9472 rfl rfl]
  show (32 * g.val + i.val) * 9472 + C.val = g.val * 303104 + i.val * 9472 + C.val
  omega

theorem join_apply {α : Type} (v : S112x32x9472.Idx → α) (k : Fin 3584) (C : Fin 9472) :
    shapeCast S3584x9472 v shapeCasts_S112x32x9472_S3584x9472 (ValueIdx.ix2 k C) = v (ValueIdx.ix3 (groupOf k) ⟨k.val % 32, by omega⟩ C) := by
  refine shapeCast_apply _ _ _ _ ?_
  rw [rowMajor_val2 _ 9472 rfl, rowMajor_val3 _ 303104 9472 rfl rfl]
  show k.val / 32 * 303104 + k.val % 32 * 9472 + C.val = k.val * 9472 + C.val
  omega

theorem rows_apply {α : Type} (v : S112x9472.Idx → α) (g : Fin 112) (i : Fin 32) (C : Fin 9472) :
    broadcastTo S112x32x9472 (shapeCast S112x1x9472 v shapeCasts_S112x9472_S112x1x9472) broadcasts_S112x1x9472_S112x32x9472 (ValueIdx.ix3 g i C) = v (ValueIdx.ix2 g C) := by
  refine (broadcastTo_apply _ _ _ (ValueIdx.ix3 g (0 : Fin 1) C) (fun a => ?_)).trans ?_
  · match a with
    | ⟨0, _⟩ => rfl
    | ⟨1, _⟩ => rfl
    | ⟨2, _⟩ => rfl
  · refine shapeCast_apply _ _ _ _ ?_
    rw [rowMajor_val2 _ 9472 rfl, rowMajor_val3 _ 9472 9472 rfl rfl]
    show g.val * 9472 + C.val = g.val * 9472 + 0 * 9472 + C.val
    omega

/-- The decoded nibbles times their scales, for the bits of `n` and the scale words `e`. -/
def scaled (d : FVec Ideal S3584x9472 .bf16) (s : FVec Ideal S112x9472 .f32) : FVec Ideal S3584x9472 .bf16 :=
  shapeCast S3584x9472 (mulf (shapeCast S112x32x9472 d shapeCasts_S3584x9472_S112x32x9472)
    (broadcastTo S112x32x9472 (shapeCast S112x1x9472 (truncf .bf16 s bitsLt_bf16_f32) shapeCasts_S112x9472_S112x1x9472) broadcasts_S112x1x9472_S112x32x9472))
    shapeCasts_S112x32x9472_S3584x9472

theorem scaled_apply (d : FVec Ideal S3584x9472 .bf16) (s : FVec Ideal S112x9472 .f32) (k : Fin 3584) (C : Fin 9472) :
    scaled d s (ValueIdx.ix2 k C) = (d (ValueIdx.ix2 k C) * s (ValueIdx.ix2 (groupOf k) C) : EReal) := by
  unfold scaled
  rw [join_apply, mulf_at, split_apply, rows_apply, truncf_at, regroup]

/-- The decoder over a block of words. -/
def decoded (n : IVec S3584x9472 32) : FVec Ideal S3584x9472 .bf16 := fun j => tree (bitOf (n j) 1#32) (bitOf (n j) 2#32) (bitOf (n j) 4#32) (bitOf (n j) 8#32)

/-- The scales over a block of words. -/
def expos (e : IVec S112x9472 32) : FVec Ideal S112x9472 .f32 := fun j => expo (e j)

/-- The reference's low weights. -/
def lowW (x1 : Vec Ideal S3584x9472 .i8) (x2 : Vec Ideal S112x18944 .i8) : FVec Ideal S3584x9472 .bf16 :=
  k0_pay12 (F := Ideal) (k0_pay9 (F := Ideal) (k0_pay7 (F := Ideal) x1) k0_pay8) (k0_pay10 (F := Ideal) x2) (k0_pay11 (F := Ideal) x2)

theorem lowW_eq (x1 : Vec Ideal S3584x9472 .i8) (x2 : Vec Ideal S112x18944 .i8) :
    lowW x1 x2 = scaled (decoded (andi (extui 32 x1 natLt_8_32) (broadcast S3584x9472 15#32)))
      (expos (extui 32 (extractStridedSlice S112x9472 ![0, 0] x2 slices_S112x18944_o0_0_S112x9472) natLt_8_32)) := rfl

theorem lowW_apply (x1 : Vec Ideal S3584x9472 .i8) (x2 : Vec Ideal S112x18944 .i8) (k : Fin 3584) (C : Fin 9472) :
    lowW x1 x2 (ValueIdx.ix2 k C) = dec (nibLo (x1 (ValueIdx.ix2 k C))) * e8 (x2 (ValueIdx.ix2 (groupOf k) ⟨C.val, by omega⟩)) := by
  rw [lowW_eq, scaled_apply]
  congr 1
  · have e : andi (extui 32 x1 natLt_8_32) (broadcast S3584x9472 15#32) (ValueIdx.ix2 k C) = BitVec.ofNat 32 (nibLo (x1 (ValueIdx.ix2 k C))) := low_word _
    unfold decoded
    rw [e]
    exact tree_value _ (nibLo_lt _)
  · unfold expos
    refine (expo_value _).trans (congrArg e8 ?_)
    refine extractStridedSlice_apply _ _ _ _ _ (fun a => ?_)
    match a with
    | ⟨0, _⟩ => exact (Nat.zero_add _).symm
    | ⟨1, _⟩ => exact (Nat.zero_add _).symm

/-! ## The high nibbles -/

/-- The reference's high weights. -/
def highW (x1 : Vec Ideal S3584x9472 .i8) (x2 : Vec Ideal S112x18944 .i8) : FVec Ideal S3584x9472 .bf16 :=
  scaled (decoded (shrsi (extui 32 x1 natLt_8_32) (broadcast S3584x9472 4#32)))
      (expos (extui 32 (extractStridedSlice S112x9472 ![0, 9472] x2 slices_S112x18944_o0_9472_S112x9472) natLt_8_32))

theorem highW_apply (x1 : Vec Ideal S3584x9472 .i8) (x2 : Vec Ideal S112x18944 .i8) (k : Fin 3584) (C : Fin 9472) :
    highW x1 x2 (ValueIdx.ix2 k C) = dec (nibHi (x1 (ValueIdx.ix2 k C))) * e8 (x2 (ValueIdx.ix2 (groupOf k) ⟨9472 + C.val, by omega⟩)) := by
  unfold highW
  rw [scaled_apply]
  congr 1
  · have e : shrsi (extui 32 x1 natLt_8_32) (broadcast S3584x9472 4#32) (ValueIdx.ix2 k C) = BitVec.ofNat 32 (nibHi (x1 (ValueIdx.ix2 k C))) := high_word _
    unfold decoded
    rw [e]
    exact tree_value _ (nibHi_lt _)
  · unfold expos
    refine (expo_value _).trans (congrArg e8 ?_)
    refine extractStridedSlice_apply _ _ _ _ _ (fun a => ?_)
    match a with
    | ⟨0, _⟩ => exact (Nat.zero_add _).symm
    | ⟨1, _⟩ => rfl

/-! ## The products -/

/-- One product, from zero. -/
def prod (a : FVec Ideal S12288x3584 .bf16) (w : FVec Ideal S3584x9472 .bf16) : FVec Ideal S12288x9472 .f32 :=
  matmul dot_S12288x3584_S3584x9472_S12288x9472_1_0_0_1_n_n none a w (constant S12288x9472 .f32 0x00000000#32)

theorem prod_apply (a : FVec Ideal S12288x3584 .bf16) (w : FVec Ideal S3584x9472 .bf16) (R : Fin 12288) (C : Fin 9472) :
    prod a w (ValueIdx.ix2 R C) = ∑ k : Fin 3584, a (ValueIdx.ix2 R k) * w (ValueIdx.ix2 k C) := by
  have h := Ideal.matmul_plain_apply (M := 12288) (K := 3584) (N := 9472) none a w (constant S12288x9472 .f32 0) R C
  refine Eq.trans h ?_
  show Ideal.ofBits .f32 0#32 + _ = _
  rw [show Ideal.ofBits .f32 0#32 = 0 by simp [Ideal.ofBits, Ideal.ieee], zero_add]

/-- The reference's product, spelt over its two halves. -/
def outY (x0 : Vec Ideal S12288x3584 .bf16) (x1 : Vec Ideal S3584x9472 .i8) (x2 : Vec Ideal S112x18944 .i8) : FVec Ideal S12288x18944 .bf16 :=
  truncf .bf16 (concatenate S12288x18944 1 [⟨S12288x9472, prod (k0_pay6 (F := Ideal) x0) (lowW x1 x2)⟩, ⟨S12288x9472, prod (k0_pay6 (F := Ideal) x0) (highW x1 x2)⟩]
    concatenates_S12288x9472_S12288x9472_S12288x18944_d1) bitsLt_bf16_f32

theorem pay1_eq (x0 : Vec Ideal S12288x3584 .bf16) (x1 : Vec Ideal S3584x9472 .i8) (x2 : Vec Ideal S112x18944 .i8) :
    k0_pay1 (F := Ideal) (k0_pay6 (F := Ideal) x0) (lowW x1 x2) (k0_pay14 (F := Ideal) x2) (k0_pay15 (k0_pay7 (F := Ideal) x1)) (k0_pay16 (k0_pay7 (F := Ideal) x1))
      (k0_pay17 (k0_pay7 (F := Ideal) x1)) (k0_pay18 (k0_pay7 (F := Ideal) x1)) (k0_pay19 (F := Ideal) (k0_pay7 (F := Ideal) x1)) (k0_pay20 (F := Ideal)) (k0_pay21 (F := Ideal))
      = outY x0 x1 x2 := rfl

theorem outY_apply (x0 : Vec Ideal S12288x3584 .bf16) (x1 : Vec Ideal S3584x9472 .i8) (x2 : Vec Ideal S112x18944 .i8) (R : Fin 12288) (C : Fin 18944) :
    outY x0 x1 x2 (ValueIdx.ix2 R C) = prodAt (rowOf x0) (fun k c => x1 (ValueIdx.ix2 k c)) (fun g c => x2 (ValueIdx.ix2 g c)) R C := by
  unfold outY prodAt
  rw [truncf_at]
  by_cases h : C.val < 9472
  · refine (concatenate_pair_apply_left (s₁ := S12288x9472) (s₂ := S12288x9472) (t := S12288x18944) (1 : Fin 2) _ _ _ (ValueIdx.ix2 R C) rfl (ValueIdx.ix2 R ⟨C.val, h⟩) (fun b => ?_)).trans ?_
    · match b with
      | ⟨0, _⟩ => rfl
      | ⟨1, _⟩ => rfl
    · rw [prod_apply]
      refine Finset.sum_congr rfl fun k _ => ?_
      rw [pay6_apply, lowW_apply]
      unfold colW
      rw [dif_pos h]
  · refine (concatenate_pair_apply_right (s₁ := S12288x9472) (s₂ := S12288x9472) (t := S12288x18944) (1 : Fin 2) _ _ _ (ValueIdx.ix2 R C) rfl rfl (ValueIdx.ix2 R ⟨C.val - 9472, by omega⟩) (fun b hb => ?_) ?_).trans ?_
    · match b with
      | ⟨0, _⟩ => rfl
      | ⟨1, _⟩ => exact absurd rfl hb
    · show C.val - 9472 + 9472 = C.val
      omega
    · rw [prod_apply]
      refine Finset.sum_congr rfl fun k _ => ?_
      rw [pay6_apply, highW_apply]
      unfold colW
      rw [dif_neg h]
      have hb : 9472 + (C.val - 9472) < 18944 := by have := C.isLt; omega
      have e : (⟨9472 + (C.val - 9472), hb⟩ : Fin 18944) = C := Fin.ext (by show 9472 + (C.val - 9472) = C.val; omega)
      exact congrArg (fun c => rowXb (rowOf x0 R) k * (dec (nibHi (x1 (ValueIdx.ix2 k ⟨C.val - 9472, by omega⟩))) * e8 (x2 (ValueIdx.ix2 (groupOf k) c)))) e

end Cert.ReferenceIdeal.Hand

end
-- ==== Proof.Ref.Arrays.lean ====
/- What the three result arrays hold after the reference, element by element, on the extended reals. -/
module

public import proofs.«01_k».proof.Proof.Ref.Weights
public import proofs.«01_k».proof.Proof.Gen.ReferenceIdeal.Frame
public import Idealize.ShloMosaic.Lib.Pipeline.ValueKit.Geometry

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

open Cert.Spec

variable (m : (ℓ : Loc nD τ sig) → Buf (Elt Ideal) ℓ) (ρ : Dev nD → PrngReg)

/-- The rows of x, the packed weights and the scale bytes as the launch finds them. -/
def X0 (c : Dev nD) : Fin 12288 → Fin 3584 → EReal := fun R d => V m c main_v0 (ValueIdx.ix2 R d)
def WP0 (c : Dev nD) : Fin 3584 → Fin 9472 → BitVec 8 := fun k C => m ((c : Thread nD τ).loc main_arg1) (ValueIdx.ix2 k C)
def WS0 (c : Dev nD) : Fin 112 → Fin 18944 → BitVec 8 := fun g C => m ((c : Thread nD τ).loc main_arg2) (ValueIdx.ix2 g C)

theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)

theorem zero2 : ∀ a : Fin 2, (![0, 0] : Fin 2 → ℕ) a = 0 := by decide

theorem iblk_0 (c : Dev nD) (t : Fin cfg0.N) (a : Fin 12288) (d : Fin 3584) : iblk m c 0 t (ValueIdx.ix2 a d) = X0 m c a d := by
  unfold X0
  blk_ext [iblk, index_0]

theorem iblk_1 (c : Dev nD) (t : Fin cfg0.N) (k : Fin 3584) (l : Fin 9472) : iblk m c 1 t (ValueIdx.ix2 k l) = WP0 m c k l := by
  unfold WP0
  rw [← V_main_arg1 m c]
  blk_ext [iblk, index_1]

theorem iblk_2 (c : Dev nD) (t : Fin cfg0.N) (g : Fin 112) (l : Fin 18944) : iblk m c 2 t (ValueIdx.ix2 g l) = WS0 m c g l := by
  unfold WS0
  rw [← V_main_arg2 m c]
  blk_ext [iblk, index_2]

theorem rowOf_iblk (c : Dev nD) (t : Fin cfg0.N) : rowOf (iblk m c 0 t) = X0 m c := by
  funext a d
  exact iblk_0 m c t a d

/-- The body's three results over whole arrays. -/
theorem out3_eq (x0 : Vec Ideal S12288x3584 .bf16) (x1 : Vec Ideal S3584x9472 .i8) (x2 : Vec Ideal S112x18944 .i8) : out0_3 (F := Ideal) x0 x1 x2 = outY x0 x1 x2 := by
  unfold out0_3 k0_pay22
  rw [View.canon_unit_zero (funext zero2), View.ld_unit_zero (S := S12288x3584) (off := ![0, 0]) (funext zero2), View.ld_unit_zero (S := S3584x9472) (off := ![0, 0]) (funext zero2),
    View.ld_unit_zero (S := S112x18944) (off := ![0, 0]) (funext zero2)]
  exact pay1_eq x0 x1 x2

theorem out4_eq (x0 : Vec Ideal S12288x3584 .bf16) (x1 : Vec Ideal S3584x9472 .i8) (x2 : Vec Ideal S112x18944 .i8) :
    out0_4 (F := Ideal) x0 x1 x2 = k0_pay2 (F := Ideal) (k0_pay5 (F := Ideal) x0) := by
  unfold out0_4
  rw [View.canon_unit_zero (funext zero2), View.ld_unit_zero (S := S12288x3584) (off := ![0, 0]) (funext zero2)]

theorem out5_eq (x0 : Vec Ideal S12288x3584 .bf16) (x1 : Vec Ideal S3584x9472 .i8) (x2 : Vec Ideal S112x18944 .i8) : out0_5 (F := Ideal) x0 x1 x2 = k0_pay4 (F := Ideal) x0 := by
  unfold out0_5
  rw [View.canon_unit_zero (funext zero2), View.ld_unit_zero (S := S12288x3584) (off := ![0, 0]) (funext zero2)]

theorem emb_3 (t : Fin cfg0.N) (a : Fin 12288) (l : Fin 18944) : ((cfg0.win 3).blk t).view.emb (ValueIdx.ix2 a l) = ValueIdx.ix2 a l := by
  funext j
  match j with
  | ⟨0, _⟩ => apply Fin.ext; blk_simp [index_3]
  | ⟨1, _⟩ => apply Fin.ext; blk_simp [index_3]

theorem emb_4 (t : Fin cfg0.N) (a : Fin 12288) (l : Fin 3584) : ((cfg0.win 4).blk t).view.emb (ValueIdx.ix2 a l) = ValueIdx.ix2 a l := by
  funext j
  match j with
  | ⟨0, _⟩ => apply Fin.ext; blk_simp [index_4]
  | ⟨1, _⟩ => apply Fin.ext; blk_simp [index_4]

theorem emb_5 (t : Fin cfg0.N) (a : Fin 12288) (l : Fin 112) : ((cfg0.win 5).blk t).view.emb (ValueIdx.ix2 a l) = ValueIdx.ix2 a l := by
  funext j
  match j with
  | ⟨0, _⟩ => apply Fin.ext; blk_simp [index_5]
  | ⟨1, _⟩ => apply Fin.ext; blk_simp [index_5]

/-- The product's array. -/
def G3 (c : Dev nD) (R : Fin 12288) (C : Fin 18944) : EReal := prodAt (X0 m c) (WP0 m c) (WS0 m c) R C
/-- The codes' array. -/
def G4 (c : Dev nD) (R : Fin 12288) (C : Fin 3584) : EReal := rowCode (X0 m c R) C
/-- The scales' array. -/
def G5 (c : Dev nD) (R : Fin 12288) (C : Fin 112) : EReal := rowScale (X0 m c R) C

theorem arr_3 (c : Dev nD) : (dats m 0 c).arrAt 3 cfg0.N = (fun y : S12288x18944.Idx => G3 m c (y 0) (y 1)) := by
  refine (dats m 0 c).arrAt_eq_of_covers 3 _ (by decide +kernel) fun t hf y => ?_
  obtain ⟨a, l, rfl⟩ : ∃ (a : Fin 12288) (l : Fin 18944), y = ValueIdx.ix2 a l := ⟨y 0, y 1, ValueIdx.eq_ix2 y⟩
  refine Eq.trans ?_ (congrArg (fun y : S12288x18944.Idx => G3 m c (y 0) (y 1)) (emb_3 t a l).symm)
  refine Eq.trans (congrFun ((after0_3 m c t).trans (out3_eq _ _ _)) _) ?_
  refine (outY_apply _ _ _ a l).trans ?_
  rw [rowOf_iblk]
  exact congrArg₂ (fun p q => prodAt (X0 m c) p q a l) (funext fun k => funext fun l => iblk_1 m c t k l) (funext fun k => funext fun l => iblk_2 m c t k l)

theorem arr_4 (c : Dev nD) : (dats m 0 c).arrAt 4 cfg0.N = (fun y : S12288x3584.Idx => G4 m c (y 0) (y 1)) := by
  refine (dats m 0 c).arrAt_eq_of_covers 4 _ (by decide +kernel) fun t hf y => ?_
  obtain ⟨a, l, rfl⟩ : ∃ (a : Fin 12288) (l : Fin 3584), y = ValueIdx.ix2 a l := ⟨y 0, y 1, ValueIdx.eq_ix2 y⟩
  refine Eq.trans ?_ (congrArg (fun y : S12288x3584.Idx => G4 m c (y 0) (y 1)) (emb_4 t a l).symm)
  refine Eq.trans (congrFun ((after0_4 m c t).trans (out4_eq _ _ _)) _) ?_
  refine (pay2_apply _ a l).trans ?_
  rw [rowOf_iblk]
  rfl

theorem arr_5 (c : Dev nD) : (dats m 0 c).arrAt 5 cfg0.N = (fun y : S12288x112.Idx => G5 m c (y 0) (y 1)) := by
  refine (dats m 0 c).arrAt_eq_of_covers 5 _ (by decide +kernel) fun t hf y => ?_
  obtain ⟨a, l, rfl⟩ : ∃ (a : Fin 12288) (l : Fin 112), y = ValueIdx.ix2 a l := ⟨y 0, y 1, ValueIdx.eq_ix2 y⟩
  refine Eq.trans ?_ (congrArg (fun y : S12288x112.Idx => G5 m c (y 0) (y 1)) (emb_5 t a l).symm)
  refine Eq.trans (congrFun ((after0_5 m c t).trans (out5_eq _ _ _)) _) ?_
  refine (pay4_apply _ a l).trans ?_
  rw [rowOf_iblk]
  rfl

/-- The arrays after the run. -/
theorem final : θ_run defs (onTc (τ := τ) (main (F := Ideal))) ⟨m, fun _ => 0, ρ⟩ (fun r => ∀ c : Dev nD,
      r.2.mem ((c.tc : Thread nD τ).loc main_v1_0) = (dats m 0 c).arrAt 3 cfg0.N
      ∧ r.2.mem ((c.tc : Thread nD τ).loc main_v1_1) = (dats m 0 c).arrAt 4 cfg0.N
      ∧ r.2.mem ((c.tc : Thread nD τ).loc main_v1_2) = (dats m 0 c).arrAt 5 cfg0.N) :=
  (θ_run defs _ _).mono (fun _ h c => ⟨(h c).1 3, (h c).1 4, (h c).1 5⟩) (run_main m ρ)

end Cert.ReferenceIdeal.Hand

end
-- ==== Proof.Both.Join.lean ====
/- The kernel's result arrays equal the reference's when the arguments agree. -/
module

public import proofs.«01_k».proof.Defs
public import proofs.«01_k».proof.Proof.Kern.Arrays
public import proofs.«01_k».proof.Proof.Ref.Arrays
public import Idealize.ShloMosaic.Lib.Claim

@[expose] public section

set_option maxRecDepth 16384

noncomputable section

namespace Cert.Join

open Idealize.ShloMosaic Idealize.ShloMosaic.TcCoe Idealize.ShloMosaic.Tactic
open Idealize.SL Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

variable {m m'}

/-- The rows of x at the kernel's launch: the argument, regrouped. -/
theorem kernel_rows (c : Dev KernelIdeal.nD) : KernelIdeal.Gen.V m c KernelIdeal.main_v0
    = shapeCast KernelIdeal.S12288x3584 (m ((c.tc : Thread KernelIdeal.nD KernelIdeal.τ).loc KernelIdeal.main_arg0)) KernelIdeal.Gen.shapeCasts_S8x1536x3584_S12288x3584 := by
  entry_read
  rfl

/-- The rows of x at the reference's launch: the argument, regrouped. -/
theorem reference_rows (c : Dev ReferenceIdeal.nD) : ReferenceIdeal.Gen.V m' c ReferenceIdeal.main_v0
    = shapeCast ReferenceIdeal.S12288x3584 (m' ((c.tc : Thread ReferenceIdeal.nD ReferenceIdeal.τ).loc ReferenceIdeal.main_arg0)) ReferenceIdeal.Gen.shapeCasts_S8x1536x3584_S12288x3584 := by
  entry_read
  rfl

variable (c : Dev KernelIdeal.nD)

theorem rows_eq (h : m' ((c.tc : Thread ReferenceIdeal.nD ReferenceIdeal.τ).loc ReferenceIdeal.main_arg0) = m ((c.tc : Thread KernelIdeal.nD KernelIdeal.τ).loc KernelIdeal.main_arg0)) :
    ReferenceIdeal.Hand.X0 m' c = KernelIdeal.Hand.X0 m c := by
  funext R d
  unfold ReferenceIdeal.Hand.X0 KernelIdeal.Hand.X0
  rw [kernel_rows, reference_rows]
  exact congrFun (congrArg (fun v => shapeCast KernelIdeal.S12288x3584 v KernelIdeal.Gen.shapeCasts_S8x1536x3584_S12288x3584) h) _

theorem packed_eq (h : m' ((c.tc : Thread ReferenceIdeal.nD ReferenceIdeal.τ).loc ReferenceIdeal.main_arg1) = m ((c.tc : Thread KernelIdeal.nD KernelIdeal.τ).loc KernelIdeal.main_arg1)) :
    ReferenceIdeal.Hand.WP0 m' c = KernelIdeal.Hand.WP0 m c := by
  funext k C
  exact congrFun h _

theorem bytes_eq (h : m' ((c.tc : Thread ReferenceIdeal.nD ReferenceIdeal.τ).loc ReferenceIdeal.main_arg2) = m ((c.tc : Thread KernelIdeal.nD KernelIdeal.τ).loc KernelIdeal.main_arg2)) :
    ReferenceIdeal.Hand.WS0 m' c = KernelIdeal.Hand.WS0 m c := by
  funext k C
  exact congrFun h _

/-- The two programs' results are equal. -/
theorem algebraic : Cert.algebraic_KernelIdeal_ReferenceIdeal (hKernelIdeal := Cert.KernelIdeal.Gen.facts) (hReferenceIdeal := Cert.ReferenceIdeal.Gen.facts) := by
  intro m g m' g' _ hag
  refine ⟨fun c => (KernelIdeal.Hand.dats m 0 c).arrAt 3 KernelIdeal.cfg0.N, fun c => (KernelIdeal.Hand.dats m 0 c).arrAt 4 KernelIdeal.cfg0.N,
    fun c => (KernelIdeal.Hand.dats m 0 c).arrAt 5 KernelIdeal.cfg0.N, ?_, ?_⟩
  · refine (θ_run _ _ _).mono (fun r h c => ?_) (θ_run_and (KernelIdeal.Hand.final m g) (KernelIdeal.Hand.unchanged m g))
    exact ⟨(h.1 c).1, (h.1 c).2.1, (h.1 c).2.2, h.2 c⟩
  · refine (θ_run _ _ _).mono (fun r h c => ?_) (θ_run_and (ReferenceIdeal.Hand.final m' g') (ReferenceIdeal.Gen.unchanged m' g'))
    obtain ⟨h0, h1, h2⟩ := hag c
    have e0 := rows_eq c h0
    have e1 := packed_eq c h1
    have e2 := bytes_eq c h2
    refine ⟨(h.1 c).1.trans ?_, (h.1 c).2.1.trans ?_, (h.1 c).2.2.trans ?_, h.2 c⟩
    · refine (ReferenceIdeal.Hand.arr_3 m' c).trans (Eq.trans ?_ (KernelIdeal.Hand.arr_3 m c).symm)
      funext y
      unfold ReferenceIdeal.Hand.G3 KernelIdeal.Hand.G3
      rw [e0, e1, e2]
    · refine (ReferenceIdeal.Hand.arr_4 m' c).trans (Eq.trans ?_ (KernelIdeal.Hand.arr_4 m c).symm)
      funext y
      unfold ReferenceIdeal.Hand.G4 KernelIdeal.Hand.G4
      rw [e0]
    · refine (ReferenceIdeal.Hand.arr_5 m' c).trans (Eq.trans ?_ (KernelIdeal.Hand.arr_5 m c).symm)
      funext y
      unfold ReferenceIdeal.Hand.G5 KernelIdeal.Hand.G5
      rw [e0]

end Cert.Join

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Free.Frame
public import proofs.«01_k».proof.Proof.Both.Join
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Free.frame m ρ, fun m ρ _ => Cert.KernelIdeal.Hand.frame m ρ, fun m ρ _ => Cert.ReferenceIdeal.Gen.frame m ρ, trivial, Cert.Join.algebraic⟩

end Cert.Proof

end
